-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gains_below_2_127 [hPre_gains_below_2_127 : Cert.Pre_gains_below_2_127.Facts] (m : (ℓ : Loc Cert.KernelIdeal.nD Cert.KernelIdeal.τ Cert.KernelIdeal.sig) → Buf (Elt Ideal) ℓ) : Prop :=
  ∀ c : Dev Cert.KernelIdeal.nD,
    (Cert.Pre_gains_below_2_127.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gains_below_2_127 [hPre_gains_below_2_127 : Cert.Pre_gains_below_2_127.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gains_below_2_127.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gains_below_2_127 [hKernelIdeal : Cert.KernelIdeal.Facts] [hPre_gains_below_2_127 : Cert.Pre_gains_below_2_127.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gains_below_2_127 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gains_below_2_127 [hReferenceIdeal : Cert.ReferenceIdeal.Facts] [hPre_gains_below_2_127 : Cert.Pre_gains_below_2_127.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gains_below_2_127 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_gains_below_2_127 [hKernelIdeal : Cert.KernelIdeal.Facts] [hReferenceIdeal : Cert.ReferenceIdeal.Facts] [hPre_gains_below_2_127 : Cert.Pre_gains_below_2_127.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gains_below_2_127 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_gains_below_2_127 : Cert.Pre_gains_below_2_127.Facts),
    quiescent_Kernel (hKernel := hKernel)
    ∧ quiescent_KernelIdeal (hKernelIdeal := hKernelIdeal)
    ∧ quiescent_KernelIdeal_pre_gains_below_2_127 (hKernelIdeal := hKernelIdeal) (hPre_gains_below_2_127 := hPre_gains_below_2_127)
    ∧ quiescent_ReferenceIdeal (hReferenceIdeal := hReferenceIdeal)
    ∧ quiescent_ReferenceIdeal_pre_gains_below_2_127 (hReferenceIdeal := hReferenceIdeal) (hPre_gains_below_2_127 := hPre_gains_below_2_127)
    ∧ preserves_Kernel_KernelIdeal
    ∧ algebraic_KernelIdeal_ReferenceIdeal_pre_gains_below_2_127 (hKernelIdeal := hKernelIdeal) (hReferenceIdeal := hReferenceIdeal) (hPre_gains_below_2_127 := hPre_gains_below_2_127)
-- ==== Pre_gains_below_2_127.lean ====
abbrev S5x2048x14336 : Shape := ⟨3, ![5, 2048, 14336]⟩
abbrev S14336 : Shape := ⟨1, ![14336]⟩
abbrev S_ : Shape := ⟨0, ![]⟩

class Facts : Prop where
  bcast_S_S14336 : S_.BroadcastsInDim S14336 (![] : Fin 0 → Fin S14336.rank)
  reducesTo_S14336_S_d0 : S14336.ReducesTo [0] S_
  h_S_ : 0 < S_.numel

variable [Facts]

def fn {F : FTy → Type} [FloatOps F] (main_arg0 : FVec F S5x2048x14336 .bf16) (main_arg1 : FVec F S5x2048x14336 .bf16) (main_arg2 : FVec F S14336 .bf16) : IVec S_ 1 :=
  let main_cst : FVec F S_ .bf16 := constant S_ .bf16 0x7F00#16
  let main_v0 : FVec F S14336 .bf16 := broadcastInDim S14336 ![] bcast_S_S14336 main_cst
  let main_v1 : IVec S14336 1 := cmpf .ole main_arg2 main_v0
  let main_cst_0 : FVec F S_ .bf16 := constant S_ .bf16 0xFF00#16
  let main_v2 : FVec F S14336 .bf16 := broadcastInDim S14336 ![] bcast_S_S14336 main_cst_0
  let main_v3 : IVec S14336 1 := cmpf .oge main_arg2 main_v2
  let main_v4 : IVec S14336 1 := andi main_v1 main_v3
  let main_c : IVec S_ 1 := constantI S_ 1 1#1
  let main_v5 : IVec S_ 1 := (fun x v => Host.reduce IntOp.andi x v reducesTo_S14336_S_d0 h_S_) main_v4 main_c
  main_v5
-- ==== Kernel.lean ====
abbrev S5x2048x14336 : Shape := ⟨3, ![5, 2048, 14336]⟩
abbrev S14336 : Shape := ⟨1, ![14336]⟩
abbrev S10240x14336 : Shape := ⟨2, ![10240, 14336]⟩
abbrev S1x14336 : Shape := ⟨2, ![1, 14336]⟩
abbrev S10240x112 : Shape := ⟨2, ![10240, 112]⟩
abbrev S64x14336 : Shape := ⟨2, ![64, 14336]⟩
abbrev S64x112 : Shape := ⟨2, ![64, 112]⟩
abbrev S64x128 : Shape := ⟨2, ![64, 128]⟩
abbrev S16x128 : Shape := ⟨2, ![16, 128]⟩
abbrev S16 : Shape := ⟨1, ![16]⟩
abbrev S16x1 : Shape := ⟨2, ![16, 1]⟩
abbrev S32x128 : Shape := ⟨2, ![32, 128]⟩
abbrev S1x128 : Shape := ⟨2, ![1, 128]⟩
abbrev S32 : Shape := ⟨1, ![32]⟩
abbrev S32x1 : Shape := ⟨2, ![32, 1]⟩
abbrev S32x112 : Shape := ⟨2, ![32, 112]⟩

abbrev nBuf : Space → Nat
  | .hbm => 10
  | .vmem => 13
  | .smem => 0
  | _ => 0

abbrev bufTy : (tb : Table) → Fin (tcTables nBuf tb) → BufTy
  | .hbm, ⟨0, _⟩ => ⟨S5x2048x14336, .bf16⟩
  | .hbm, ⟨1, _⟩ => ⟨S5x2048x14336, .bf16⟩
  | .hbm, ⟨2, _⟩ => ⟨S14336, .bf16⟩
  | .hbm, ⟨3, _⟩ => ⟨S10240x14336, .bf16⟩
  | .hbm, ⟨4, _⟩ => ⟨S10240x14336, .bf16⟩
  | .hbm, ⟨5, _⟩ => ⟨S14336, .f32⟩
  | .hbm, ⟨6, _⟩ => ⟨S1x14336, .f32⟩
  | .hbm, ⟨7, _⟩ => ⟨S10240x14336, .bf16⟩
  | .hbm, ⟨8, _⟩ => ⟨S10240x14336, .fp8e4m3⟩
  | .hbm, ⟨9, _⟩ => ⟨S10240x112, .f32⟩
  | .local _ .vmem, ⟨0, _⟩ => ⟨S64x14336, .bf16⟩
  | .local _ .vmem, ⟨1, _⟩ => ⟨S64x14336, .bf16⟩
  | .local _ .vmem, ⟨2, _⟩ => ⟨S64x14336, .bf16⟩
  | .local _ .vmem, ⟨3, _⟩ => ⟨S64x14336, .bf16⟩
  | .local _ .vmem, ⟨4, _⟩ => ⟨S1x14336, .f32⟩
  | .local _ .vmem, ⟨5, _⟩ => ⟨S64x14336, .bf16⟩
  | .local _ .vmem, ⟨6, _⟩ => ⟨S64x14336, .bf16⟩
  | .local _ .vmem, ⟨7, _⟩ => ⟨S64x14336, .fp8e4m3⟩
  | .local _ .vmem, ⟨8, _⟩ => ⟨S64x14336, .fp8e4m3⟩
  | .local _ .vmem, ⟨9, _⟩ => ⟨S64x112, .f32⟩
  | .local _ .vmem, ⟨10, _⟩ => ⟨S64x112, .f32⟩
  | .local _ .vmem, ⟨11, _⟩ => ⟨S64x128, .f32⟩
  | .local _ .vmem, ⟨12, _⟩ => ⟨S64x128, .f32⟩
  | _, _ => ⟨S5x2048x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![160], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_off1 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v5 : Index := Scalar.indexCast v4
  let c0 : Index := 0#32
  ![v5.toNat, 0]
def k0_off2 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v16 : Index := Scalar.indexCast v4
  let c128 : Index := 128#32
  ![v16.toNat, 128]
def k0_off3 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v28 : Index := Scalar.indexCast v4
  let c256 : Index := 256#32
  ![v28.toNat, 256]
def k0_off4 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v40 : Index := Scalar.indexCast v4
  let c384 : Index := 384#32
  ![v40.toNat, 384]
def k0_off5 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v52 : Index := Scalar.indexCast v4
  let c512 : Index := 512#32
  ![v52.toNat, 512]
def k0_off6 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v64 : Index := Scalar.indexCast v4
  let c640 : Index := 640#32
  ![v64.toNat, 640]
def k0_off7 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v76 : Index := Scalar.indexCast v4
  let c768 : Index := 768#32
  ![v76.toNat, 768]
def k0_off8 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v88 : Index := Scalar.indexCast v4
  let c896 : Index := 896#32
  ![v88.toNat, 896]
def k0_off9 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v100 : Index := Scalar.indexCast v4
  let c1024 : Index := 1024#32
  ![v100.toNat, 1024]
def k0_off10 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v112 : Index := Scalar.indexCast v4
  let c1152 : Index := 1152#32
  ![v112.toNat, 1152]
def k0_off11 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v124 : Index := Scalar.indexCast v4
  let c1280 : Index := 1280#32
  ![v124.toNat, 1280]
def k0_off12 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v136 : Index := Scalar.indexCast v4
  let c1408 : Index := 1408#32
  ![v136.toNat, 1408]
def k0_off13 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v148 : Index := Scalar.indexCast v4
  let c1536 : Index := 1536#32
  ![v148.toNat, 1536]
def k0_off14 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v160 : Index := Scalar.indexCast v4
  let c1664 : Index := 1664#32
  ![v160.toNat, 1664]
def k0_off15 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v172 : Index := Scalar.indexCast v4
  let c1792 : Index := 1792#32
  ![v172.toNat, 1792]
def k0_off16 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v184 : Index := Scalar.indexCast v4
  let c1920 : Index := 1920#32
  ![v184.toNat, 1920]
def k0_off17 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v196 : Index := Scalar.indexCast v4
  let c2048 : Index := 2048#32
  ![v196.toNat, 2048]
def k0_off18 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v208 : Index := Scalar.indexCast v4
  let c2176 : Index := 2176#32
  ![v208.toNat, 2176]
def k0_off19 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v220 : Index := Scalar.indexCast v4
  let c2304 : Index := 2304#32
  ![v220.toNat, 2304]
def k0_off20 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v232 : Index := Scalar.indexCast v4
  let c2432 : Index := 2432#32
  ![v232.toNat, 2432]
def k0_off21 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v244 : Index := Scalar.indexCast v4
  let c2560 : Index := 2560#32
  ![v244.toNat, 2560]
def k0_off22 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v256 : Index := Scalar.indexCast v4
  let c2688 : Index := 2688#32
  ![v256.toNat, 2688]
def k0_off23 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v268 : Index := Scalar.indexCast v4
  let c2816 : Index := 2816#32
  ![v268.toNat, 2816]
def k0_off24 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v280 : Index := Scalar.indexCast v4
  let c2944 : Index := 2944#32
  ![v280.toNat, 2944]
def k0_off25 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v292 : Index := Scalar.indexCast v4
  let c3072 : Index := 3072#32
  ![v292.toNat, 3072]
def k0_off26 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v304 : Index := Scalar.indexCast v4
  let c3200 : Index := 3200#32
  ![v304.toNat, 3200]
def k0_off27 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v316 : Index := Scalar.indexCast v4
  let c3328 : Index := 3328#32
  ![v316.toNat, 3328]
def k0_off28 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v328 : Index := Scalar.indexCast v4
  let c3456 : Index := 3456#32
  ![v328.toNat, 3456]
def k0_off29 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v340 : Index := Scalar.indexCast v4
  let c3584 : Index := 3584#32
  ![v340.toNat, 3584]
def k0_off30 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v352 : Index := Scalar.indexCast v4
  let c3712 : Index := 3712#32
  ![v352.toNat, 3712]
def k0_off31 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v364 : Index := Scalar.indexCast v4
  let c3840 : Index := 3840#32
  ![v364.toNat, 3840]
def k0_off32 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v376 : Index := Scalar.indexCast v4
  let c3968 : Index := 3968#32
  ![v376.toNat, 3968]
def k0_off33 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v388 : Index := Scalar.indexCast v4
  let c4096 : Index := 4096#32
  ![v388.toNat, 4096]
def k0_off34 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v400 : Index := Scalar.indexCast v4
  let c4224 : Index := 4224#32
  ![v400.toNat, 4224]
def k0_off35 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v412 : Index := Scalar.indexCast v4
  let c4352 : Index := 4352#32
  ![v412.toNat, 4352]
def k0_off36 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v424 : Index := Scalar.indexCast v4
  let c4480 : Index := 4480#32
  ![v424.toNat, 4480]
def k0_off37 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v436 : Index := Scalar.indexCast v4
  let c4608 : Index := 4608#32
  ![v436.toNat, 4608]
def k0_off38 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v448 : Index := Scalar.indexCast v4
  let c4736 : Index := 4736#32
  ![v448.toNat, 4736]
def k0_off39 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v460 : Index := Scalar.indexCast v4
  let c4864 : Index := 4864#32
  ![v460.toNat, 4864]
def k0_off40 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v472 : Index := Scalar.indexCast v4
  let c4992 : Index := 4992#32
  ![v472.toNat, 4992]
def k0_off41 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v484 : Index := Scalar.indexCast v4
  let c5120 : Index := 5120#32
  ![v484.toNat, 5120]
def k0_off42 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v496 : Index := Scalar.indexCast v4
  let c5248 : Index := 5248#32
  ![v496.toNat, 5248]
def k0_off43 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v508 : Index := Scalar.indexCast v4
  let c5376 : Index := 5376#32
  ![v508.toNat, 5376]
def k0_off44 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v520 : Index := Scalar.indexCast v4
  let c5504 : Index := 5504#32
  ![v520.toNat, 5504]
def k0_off45 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v532 : Index := Scalar.indexCast v4
  let c5632 : Index := 5632#32
  ![v532.toNat, 5632]
def k0_off46 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v544 : Index := Scalar.indexCast v4
  let c5760 : Index := 5760#32
  ![v544.toNat, 5760]
def k0_off47 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v556 : Index := Scalar.indexCast v4
  let c5888 : Index := 5888#32
  ![v556.toNat, 5888]
def k0_off48 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v568 : Index := Scalar.indexCast v4
  let c6016 : Index := 6016#32
  ![v568.toNat, 6016]
def k0_off49 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v580 : Index := Scalar.indexCast v4
  let c6144 : Index := 6144#32
  ![v580.toNat, 6144]
def k0_off50 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v592 : Index := Scalar.indexCast v4
  let c6272 : Index := 6272#32
  ![v592.toNat, 6272]
def k0_off51 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v604 : Index := Scalar.indexCast v4
  let c6400 : Index := 6400#32
  ![v604.toNat, 6400]
def k0_off52 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v616 : Index := Scalar.indexCast v4
  let c6528 : Index := 6528#32
  ![v616.toNat, 6528]
def k0_off53 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v628 : Index := Scalar.indexCast v4
  let c6656 : Index := 6656#32
  ![v628.toNat, 6656]
def k0_off54 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v640 : Index := Scalar.indexCast v4
  let c6784 : Index := 6784#32
  ![v640.toNat, 6784]
def k0_off55 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v652 : Index := Scalar.indexCast v4
  let c6912 : Index := 6912#32
  ![v652.toNat, 6912]
def k0_off56 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v664 : Index := Scalar.indexCast v4
  let c7040 : Index := 7040#32
  ![v664.toNat, 7040]
def k0_off57 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v676 : Index := Scalar.indexCast v4
  let c7168 : Index := 7168#32
  ![v676.toNat, 7168]
def k0_off58 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v688 : Index := Scalar.indexCast v4
  let c7296 : Index := 7296#32
  ![v688.toNat, 7296]
def k0_off59 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v700 : Index := Scalar.indexCast v4
  let c7424 : Index := 7424#32
  ![v700.toNat, 7424]
def k0_off60 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v712 : Index := Scalar.indexCast v4
  let c7552 : Index := 7552#32
  ![v712.toNat, 7552]
def k0_off61 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v724 : Index := Scalar.indexCast v4
  let c7680 : Index := 7680#32
  ![v724.toNat, 7680]
def k0_off62 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v736 : Index := Scalar.indexCast v4
  let c7808 : Index := 7808#32
  ![v736.toNat, 7808]
def k0_off63 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v748 : Index := Scalar.indexCast v4
  let c7936 : Index := 7936#32
  ![v748.toNat, 7936]
def k0_off64 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v760 : Index := Scalar.indexCast v4
  let c8064 : Index := 8064#32
  ![v760.toNat, 8064]
def k0_off65 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v772 : Index := Scalar.indexCast v4
  let c8192 : Index := 8192#32
  ![v772.toNat, 8192]
def k0_off66 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v784 : Index := Scalar.indexCast v4
  let c8320 : Index := 8320#32
  ![v784.toNat, 8320]
def k0_off67 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v796 : Index := Scalar.indexCast v4
  let c8448 : Index := 8448#32
  ![v796.toNat, 8448]
def k0_off68 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v808 : Index := Scalar.indexCast v4
  let c8576 : Index := 8576#32
  ![v808.toNat, 8576]
def k0_off69 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v820 : Index := Scalar.indexCast v4
  let c8704 : Index := 8704#32
  ![v820.toNat, 8704]
def k0_off70 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v832 : Index := Scalar.indexCast v4
  let c8832 : Index := 8832#32
  ![v832.toNat, 8832]
def k0_off71 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v844 : Index := Scalar.indexCast v4
  let c8960 : Index := 8960#32
  ![v844.toNat, 8960]
def k0_off72 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v856 : Index := Scalar.indexCast v4
  let c9088 : Index := 9088#32
  ![v856.toNat, 9088]
def k0_off73 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v868 : Index := Scalar.indexCast v4
  let c9216 : Index := 9216#32
  ![v868.toNat, 9216]
def k0_off74 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v880 : Index := Scalar.indexCast v4
  let c9344 : Index := 9344#32
  ![v880.toNat, 9344]
def k0_off75 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v892 : Index := Scalar.indexCast v4
  let c9472 : Index := 9472#32
  ![v892.toNat, 9472]
def k0_off76 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v904 : Index := Scalar.indexCast v4
  let c9600 : Index := 9600#32
  ![v904.toNat, 9600]
def k0_off77 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v916 : Index := Scalar.indexCast v4
  let c9728 : Index := 9728#32
  ![v916.toNat, 9728]
def k0_off78 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v928 : Index := Scalar.indexCast v4
  let c9856 : Index := 9856#32
  ![v928.toNat, 9856]
def k0_off79 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v940 : Index := Scalar.indexCast v4
  let c9984 : Index := 9984#32
  ![v940.toNat, 9984]
def k0_off80 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v952 : Index := Scalar.indexCast v4
  let c10112 : Index := 10112#32
  ![v952.toNat, 10112]
def k0_off81 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v964 : Index := Scalar.indexCast v4
  let c10240 : Index := 10240#32
  ![v964.toNat, 10240]
def k0_off82 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v976 : Index := Scalar.indexCast v4
  let c10368 : Index := 10368#32
  ![v976.toNat, 10368]
def k0_off83 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v988 : Index := Scalar.indexCast v4
  let c10496 : Index := 10496#32
  ![v988.toNat, 10496]
def k0_off84 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1000 : Index := Scalar.indexCast v4
  let c10624 : Index := 10624#32
  ![v1000.toNat, 10624]
def k0_off85 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1012 : Index := Scalar.indexCast v4
  let c10752 : Index := 10752#32
  ![v1012.toNat, 10752]
def k0_off86 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1024 : Index := Scalar.indexCast v4
  let c10880 : Index := 10880#32
  ![v1024.toNat, 10880]
def k0_off87 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1036 : Index := Scalar.indexCast v4
  let c11008 : Index := 11008#32
  ![v1036.toNat, 11008]
def k0_off88 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1048 : Index := Scalar.indexCast v4
  let c11136 : Index := 11136#32
  ![v1048.toNat, 11136]
def k0_off89 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1060 : Index := Scalar.indexCast v4
  let c11264 : Index := 11264#32
  ![v1060.toNat, 11264]
def k0_off90 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1072 : Index := Scalar.indexCast v4
  let c11392 : Index := 11392#32
  ![v1072.toNat, 11392]
def k0_off91 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1084 : Index := Scalar.indexCast v4
  let c11520 : Index := 11520#32
  ![v1084.toNat, 11520]
def k0_off92 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1096 : Index := Scalar.indexCast v4
  let c11648 : Index := 11648#32
  ![v1096.toNat, 11648]
def k0_off93 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1108 : Index := Scalar.indexCast v4
  let c11776 : Index := 11776#32
  ![v1108.toNat, 11776]
def k0_off94 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1120 : Index := Scalar.indexCast v4
  let c11904 : Index := 11904#32
  ![v1120.toNat, 11904]
def k0_off95 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1132 : Index := Scalar.indexCast v4
  let c12032 : Index := 12032#32
  ![v1132.toNat, 12032]
def k0_off96 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1144 : Index := Scalar.indexCast v4
  let c12160 : Index := 12160#32
  ![v1144.toNat, 12160]
def k0_off97 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1156 : Index := Scalar.indexCast v4
  let c12288 : Index := 12288#32
  ![v1156.toNat, 12288]
def k0_off98 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1168 : Index := Scalar.indexCast v4
  let c12416 : Index := 12416#32
  ![v1168.toNat, 12416]
def k0_off99 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1180 : Index := Scalar.indexCast v4
  let c12544 : Index := 12544#32
  ![v1180.toNat, 12544]
def k0_off100 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1192 : Index := Scalar.indexCast v4
  let c12672 : Index := 12672#32
  ![v1192.toNat, 12672]
def k0_off101 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1204 : Index := Scalar.indexCast v4
  let c12800 : Index := 12800#32
  ![v1204.toNat, 12800]
def k0_off102 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1216 : Index := Scalar.indexCast v4
  let c12928 : Index := 12928#32
  ![v1216.toNat, 12928]
def k0_off103 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1228 : Index := Scalar.indexCast v4
  let c13056 : Index := 13056#32
  ![v1228.toNat, 13056]
def k0_off104 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1240 : Index := Scalar.indexCast v4
  let c13184 : Index := 13184#32
  ![v1240.toNat, 13184]
def k0_off105 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1252 : Index := Scalar.indexCast v4
  let c13312 : Index := 13312#32
  ![v1252.toNat, 13312]
def k0_off106 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1264 : Index := Scalar.indexCast v4
  let c13440 : Index := 13440#32
  ![v1264.toNat, 13440]
def k0_off107 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1276 : Index := Scalar.indexCast v4
  let c13568 : Index := 13568#32
  ![v1276.toNat, 13568]
def k0_off108 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1288 : Index := Scalar.indexCast v4
  let c13696 : Index := 13696#32
  ![v1288.toNat, 13696]
def k0_off109 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1300 : Index := Scalar.indexCast v4
  let c13824 : Index := 13824#32
  ![v1300.toNat, 13824]
def k0_off110 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1312 : Index := Scalar.indexCast v4
  let c13952 : Index := 13952#32
  ![v1312.toNat, 13952]
def k0_off111 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1324 : Index := Scalar.indexCast v4
  let c14080 : Index := 14080#32
  ![v1324.toNat, 14080]
def k0_off112 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1336 : Index := Scalar.indexCast v4
  let c14208 : Index := 14208#32
  ![v1336.toNat, 14208]
def k0_off113 (k0_t1 : Fin k0_t1_loop.trips) : Fin 2 → Nat :=
  let c0_i32_5 : BitVec 32 := 0#32
  let c0_i32 : BitVec 32 := 0#32
  let c1_i32 : BitVec 32 := 1#32
  let arg9 : BitVec 32 := Scf.iv c0_i32 c1_i32 k0_t1
  let c1_i32_4 : BitVec 32 := 1#32
  let v2 : BitVec 32 := Scalar.muli arg9 c1_i32_4
  let v3 : BitVec 32 := Scalar.addi c0_i32_5 v2
  let c16_i32 : BitVec 32 := 16#32
  let v4 : BitVec 32 := Scalar.muli v3 c16_i32
  let v1357 : Index := Scalar.indexCast v4
  let c0_232 : Index := 0#32
  ![v1357.toNat, 0]
@[reducible] def k0_t2_loop : Scf.Loop 32 :=
  let c0_i32_1 : BitVec 32 := 0#32
  let c2_i32 : BitVec 32 := 2#32
  let v1 : BitVec 32 := Scalar.addi c0_i32_1 c2_i32
  let c1_i32_2 : BitVec 32 := 1#32
  ⟨c0_i32_1, v1, c1_i32_2⟩
def k0_off114 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5 : Index := Scalar.indexCast v4
  let c0 : Index := 0#32
  ![v5.toNat, 0]
def k0_off115 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7 : Index := Scalar.indexCast v4
  let c0_6 : Index := 0#32
  ![v7.toNat, 0]
def k0_off116 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v19 : Index := Scalar.indexCast v4
  let c0_9 : Index := 0#32
  ![v19.toNat, 0]
def k0_off117 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v83 : Index := Scalar.indexCast v4
  let c128 : Index := 128#32
  ![v83.toNat, 128]
def k0_off118 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v95 : Index := Scalar.indexCast v4
  let c1 : Index := 1#32
  ![v95.toNat, 1]
def k0_off119 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v159 : Index := Scalar.indexCast v4
  let c256 : Index := 256#32
  ![v159.toNat, 256]
def k0_off120 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v171 : Index := Scalar.indexCast v4
  let c2 : Index := 2#32
  ![v171.toNat, 2]
def k0_off121 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v235 : Index := Scalar.indexCast v4
  let c384 : Index := 384#32
  ![v235.toNat, 384]
def k0_off122 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v247 : Index := Scalar.indexCast v4
  let c3 : Index := 3#32
  ![v247.toNat, 3]
def k0_off123 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v311 : Index := Scalar.indexCast v4
  let c512 : Index := 512#32
  ![v311.toNat, 512]
def k0_off124 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v323 : Index := Scalar.indexCast v4
  let c4 : Index := 4#32
  ![v323.toNat, 4]
def k0_off125 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v387 : Index := Scalar.indexCast v4
  let c640 : Index := 640#32
  ![v387.toNat, 640]
def k0_off126 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v399 : Index := Scalar.indexCast v4
  let c5 : Index := 5#32
  ![v399.toNat, 5]
def k0_off127 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v463 : Index := Scalar.indexCast v4
  let c768 : Index := 768#32
  ![v463.toNat, 768]
def k0_off128 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v475 : Index := Scalar.indexCast v4
  let c6 : Index := 6#32
  ![v475.toNat, 6]
def k0_off129 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v539 : Index := Scalar.indexCast v4
  let c896 : Index := 896#32
  ![v539.toNat, 896]
def k0_off130 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v551 : Index := Scalar.indexCast v4
  let c7 : Index := 7#32
  ![v551.toNat, 7]
def k0_off131 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v615 : Index := Scalar.indexCast v4
  let c1024 : Index := 1024#32
  ![v615.toNat, 1024]
def k0_off132 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v627 : Index := Scalar.indexCast v4
  let c8 : Index := 8#32
  ![v627.toNat, 8]
def k0_off133 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v691 : Index := Scalar.indexCast v4
  let c1152 : Index := 1152#32
  ![v691.toNat, 1152]
def k0_off134 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v703 : Index := Scalar.indexCast v4
  let c9 : Index := 9#32
  ![v703.toNat, 9]
def k0_off135 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v767 : Index := Scalar.indexCast v4
  let c1280 : Index := 1280#32
  ![v767.toNat, 1280]
def k0_off136 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v779 : Index := Scalar.indexCast v4
  let c10 : Index := 10#32
  ![v779.toNat, 10]
def k0_off137 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v843 : Index := Scalar.indexCast v4
  let c1408 : Index := 1408#32
  ![v843.toNat, 1408]
def k0_off138 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v855 : Index := Scalar.indexCast v4
  let c11 : Index := 11#32
  ![v855.toNat, 11]
def k0_off139 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v919 : Index := Scalar.indexCast v4
  let c1536 : Index := 1536#32
  ![v919.toNat, 1536]
def k0_off140 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v931 : Index := Scalar.indexCast v4
  let c12 : Index := 12#32
  ![v931.toNat, 12]
def k0_off141 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v995 : Index := Scalar.indexCast v4
  let c1664 : Index := 1664#32
  ![v995.toNat, 1664]
def k0_off142 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1007 : Index := Scalar.indexCast v4
  let c13 : Index := 13#32
  ![v1007.toNat, 13]
def k0_off143 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1071 : Index := Scalar.indexCast v4
  let c1792 : Index := 1792#32
  ![v1071.toNat, 1792]
def k0_off144 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1083 : Index := Scalar.indexCast v4
  let c14 : Index := 14#32
  ![v1083.toNat, 14]
def k0_off145 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1147 : Index := Scalar.indexCast v4
  let c1920 : Index := 1920#32
  ![v1147.toNat, 1920]
def k0_off146 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1159 : Index := Scalar.indexCast v4
  let c15 : Index := 15#32
  ![v1159.toNat, 15]
def k0_off147 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1223 : Index := Scalar.indexCast v4
  let c2048 : Index := 2048#32
  ![v1223.toNat, 2048]
def k0_off148 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1235 : Index := Scalar.indexCast v4
  let c16 : Index := 16#32
  ![v1235.toNat, 16]
def k0_off149 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1299 : Index := Scalar.indexCast v4
  let c2176 : Index := 2176#32
  ![v1299.toNat, 2176]
def k0_off150 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1311 : Index := Scalar.indexCast v4
  let c17 : Index := 17#32
  ![v1311.toNat, 17]
def k0_off151 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1375 : Index := Scalar.indexCast v4
  let c2304 : Index := 2304#32
  ![v1375.toNat, 2304]
def k0_off152 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1387 : Index := Scalar.indexCast v4
  let c18 : Index := 18#32
  ![v1387.toNat, 18]
def k0_off153 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1451 : Index := Scalar.indexCast v4
  let c2432 : Index := 2432#32
  ![v1451.toNat, 2432]
def k0_off154 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1463 : Index := Scalar.indexCast v4
  let c19 : Index := 19#32
  ![v1463.toNat, 19]
def k0_off155 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1527 : Index := Scalar.indexCast v4
  let c2560 : Index := 2560#32
  ![v1527.toNat, 2560]
def k0_off156 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1539 : Index := Scalar.indexCast v4
  let c20 : Index := 20#32
  ![v1539.toNat, 20]
def k0_off157 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1603 : Index := Scalar.indexCast v4
  let c2688 : Index := 2688#32
  ![v1603.toNat, 2688]
def k0_off158 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1615 : Index := Scalar.indexCast v4
  let c21 : Index := 21#32
  ![v1615.toNat, 21]
def k0_off159 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1679 : Index := Scalar.indexCast v4
  let c2816 : Index := 2816#32
  ![v1679.toNat, 2816]
def k0_off160 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1691 : Index := Scalar.indexCast v4
  let c22 : Index := 22#32
  ![v1691.toNat, 22]
def k0_off161 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1755 : Index := Scalar.indexCast v4
  let c2944 : Index := 2944#32
  ![v1755.toNat, 2944]
def k0_off162 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1767 : Index := Scalar.indexCast v4
  let c23 : Index := 23#32
  ![v1767.toNat, 23]
def k0_off163 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1831 : Index := Scalar.indexCast v4
  let c3072 : Index := 3072#32
  ![v1831.toNat, 3072]
def k0_off164 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1843 : Index := Scalar.indexCast v4
  let c24 : Index := 24#32
  ![v1843.toNat, 24]
def k0_off165 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1907 : Index := Scalar.indexCast v4
  let c3200 : Index := 3200#32
  ![v1907.toNat, 3200]
def k0_off166 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1919 : Index := Scalar.indexCast v4
  let c25 : Index := 25#32
  ![v1919.toNat, 25]
def k0_off167 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1983 : Index := Scalar.indexCast v4
  let c3328 : Index := 3328#32
  ![v1983.toNat, 3328]
def k0_off168 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v1995 : Index := Scalar.indexCast v4
  let c26 : Index := 26#32
  ![v1995.toNat, 26]
def k0_off169 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2059 : Index := Scalar.indexCast v4
  let c3456 : Index := 3456#32
  ![v2059.toNat, 3456]
def k0_off170 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2071 : Index := Scalar.indexCast v4
  let c27 : Index := 27#32
  ![v2071.toNat, 27]
def k0_off171 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2135 : Index := Scalar.indexCast v4
  let c3584 : Index := 3584#32
  ![v2135.toNat, 3584]
def k0_off172 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2147 : Index := Scalar.indexCast v4
  let c28 : Index := 28#32
  ![v2147.toNat, 28]
def k0_off173 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2211 : Index := Scalar.indexCast v4
  let c3712 : Index := 3712#32
  ![v2211.toNat, 3712]
def k0_off174 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2223 : Index := Scalar.indexCast v4
  let c29 : Index := 29#32
  ![v2223.toNat, 29]
def k0_off175 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2287 : Index := Scalar.indexCast v4
  let c3840 : Index := 3840#32
  ![v2287.toNat, 3840]
def k0_off176 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2299 : Index := Scalar.indexCast v4
  let c30 : Index := 30#32
  ![v2299.toNat, 30]
def k0_off177 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2363 : Index := Scalar.indexCast v4
  let c3968 : Index := 3968#32
  ![v2363.toNat, 3968]
def k0_off178 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2375 : Index := Scalar.indexCast v4
  let c31 : Index := 31#32
  ![v2375.toNat, 31]
def k0_off179 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2439 : Index := Scalar.indexCast v4
  let c4096 : Index := 4096#32
  ![v2439.toNat, 4096]
def k0_off180 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2451 : Index := Scalar.indexCast v4
  let c32 : Index := 32#32
  ![v2451.toNat, 32]
def k0_off181 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2515 : Index := Scalar.indexCast v4
  let c4224 : Index := 4224#32
  ![v2515.toNat, 4224]
def k0_off182 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2527 : Index := Scalar.indexCast v4
  let c33 : Index := 33#32
  ![v2527.toNat, 33]
def k0_off183 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2591 : Index := Scalar.indexCast v4
  let c4352 : Index := 4352#32
  ![v2591.toNat, 4352]
def k0_off184 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2603 : Index := Scalar.indexCast v4
  let c34 : Index := 34#32
  ![v2603.toNat, 34]
def k0_off185 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2667 : Index := Scalar.indexCast v4
  let c4480 : Index := 4480#32
  ![v2667.toNat, 4480]
def k0_off186 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2679 : Index := Scalar.indexCast v4
  let c35 : Index := 35#32
  ![v2679.toNat, 35]
def k0_off187 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2743 : Index := Scalar.indexCast v4
  let c4608 : Index := 4608#32
  ![v2743.toNat, 4608]
def k0_off188 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2755 : Index := Scalar.indexCast v4
  let c36 : Index := 36#32
  ![v2755.toNat, 36]
def k0_off189 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2819 : Index := Scalar.indexCast v4
  let c4736 : Index := 4736#32
  ![v2819.toNat, 4736]
def k0_off190 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2831 : Index := Scalar.indexCast v4
  let c37 : Index := 37#32
  ![v2831.toNat, 37]
def k0_off191 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2895 : Index := Scalar.indexCast v4
  let c4864 : Index := 4864#32
  ![v2895.toNat, 4864]
def k0_off192 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2907 : Index := Scalar.indexCast v4
  let c38 : Index := 38#32
  ![v2907.toNat, 38]
def k0_off193 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2971 : Index := Scalar.indexCast v4
  let c4992 : Index := 4992#32
  ![v2971.toNat, 4992]
def k0_off194 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v2983 : Index := Scalar.indexCast v4
  let c39 : Index := 39#32
  ![v2983.toNat, 39]
def k0_off195 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3047 : Index := Scalar.indexCast v4
  let c5120 : Index := 5120#32
  ![v3047.toNat, 5120]
def k0_off196 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3059 : Index := Scalar.indexCast v4
  let c40 : Index := 40#32
  ![v3059.toNat, 40]
def k0_off197 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3123 : Index := Scalar.indexCast v4
  let c5248 : Index := 5248#32
  ![v3123.toNat, 5248]
def k0_off198 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3135 : Index := Scalar.indexCast v4
  let c41 : Index := 41#32
  ![v3135.toNat, 41]
def k0_off199 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3199 : Index := Scalar.indexCast v4
  let c5376 : Index := 5376#32
  ![v3199.toNat, 5376]
def k0_off200 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3211 : Index := Scalar.indexCast v4
  let c42 : Index := 42#32
  ![v3211.toNat, 42]
def k0_off201 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3275 : Index := Scalar.indexCast v4
  let c5504 : Index := 5504#32
  ![v3275.toNat, 5504]
def k0_off202 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3287 : Index := Scalar.indexCast v4
  let c43 : Index := 43#32
  ![v3287.toNat, 43]
def k0_off203 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3351 : Index := Scalar.indexCast v4
  let c5632 : Index := 5632#32
  ![v3351.toNat, 5632]
def k0_off204 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3363 : Index := Scalar.indexCast v4
  let c44 : Index := 44#32
  ![v3363.toNat, 44]
def k0_off205 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3427 : Index := Scalar.indexCast v4
  let c5760 : Index := 5760#32
  ![v3427.toNat, 5760]
def k0_off206 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3439 : Index := Scalar.indexCast v4
  let c45 : Index := 45#32
  ![v3439.toNat, 45]
def k0_off207 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3503 : Index := Scalar.indexCast v4
  let c5888 : Index := 5888#32
  ![v3503.toNat, 5888]
def k0_off208 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3515 : Index := Scalar.indexCast v4
  let c46 : Index := 46#32
  ![v3515.toNat, 46]
def k0_off209 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3579 : Index := Scalar.indexCast v4
  let c6016 : Index := 6016#32
  ![v3579.toNat, 6016]
def k0_off210 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3591 : Index := Scalar.indexCast v4
  let c47 : Index := 47#32
  ![v3591.toNat, 47]
def k0_off211 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3655 : Index := Scalar.indexCast v4
  let c6144 : Index := 6144#32
  ![v3655.toNat, 6144]
def k0_off212 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3667 : Index := Scalar.indexCast v4
  let c48 : Index := 48#32
  ![v3667.toNat, 48]
def k0_off213 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3731 : Index := Scalar.indexCast v4
  let c6272 : Index := 6272#32
  ![v3731.toNat, 6272]
def k0_off214 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3743 : Index := Scalar.indexCast v4
  let c49 : Index := 49#32
  ![v3743.toNat, 49]
def k0_off215 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3807 : Index := Scalar.indexCast v4
  let c6400 : Index := 6400#32
  ![v3807.toNat, 6400]
def k0_off216 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3819 : Index := Scalar.indexCast v4
  let c50 : Index := 50#32
  ![v3819.toNat, 50]
def k0_off217 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3883 : Index := Scalar.indexCast v4
  let c6528 : Index := 6528#32
  ![v3883.toNat, 6528]
def k0_off218 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3895 : Index := Scalar.indexCast v4
  let c51 : Index := 51#32
  ![v3895.toNat, 51]
def k0_off219 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3959 : Index := Scalar.indexCast v4
  let c6656 : Index := 6656#32
  ![v3959.toNat, 6656]
def k0_off220 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v3971 : Index := Scalar.indexCast v4
  let c52 : Index := 52#32
  ![v3971.toNat, 52]
def k0_off221 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4035 : Index := Scalar.indexCast v4
  let c6784 : Index := 6784#32
  ![v4035.toNat, 6784]
def k0_off222 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4047 : Index := Scalar.indexCast v4
  let c53 : Index := 53#32
  ![v4047.toNat, 53]
def k0_off223 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4111 : Index := Scalar.indexCast v4
  let c6912 : Index := 6912#32
  ![v4111.toNat, 6912]
def k0_off224 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4123 : Index := Scalar.indexCast v4
  let c54 : Index := 54#32
  ![v4123.toNat, 54]
def k0_off225 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4187 : Index := Scalar.indexCast v4
  let c7040 : Index := 7040#32
  ![v4187.toNat, 7040]
def k0_off226 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4199 : Index := Scalar.indexCast v4
  let c55 : Index := 55#32
  ![v4199.toNat, 55]
def k0_off227 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4263 : Index := Scalar.indexCast v4
  let c7168 : Index := 7168#32
  ![v4263.toNat, 7168]
def k0_off228 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4275 : Index := Scalar.indexCast v4
  let c56 : Index := 56#32
  ![v4275.toNat, 56]
def k0_off229 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4339 : Index := Scalar.indexCast v4
  let c7296 : Index := 7296#32
  ![v4339.toNat, 7296]
def k0_off230 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4351 : Index := Scalar.indexCast v4
  let c57 : Index := 57#32
  ![v4351.toNat, 57]
def k0_off231 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4415 : Index := Scalar.indexCast v4
  let c7424 : Index := 7424#32
  ![v4415.toNat, 7424]
def k0_off232 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4427 : Index := Scalar.indexCast v4
  let c58 : Index := 58#32
  ![v4427.toNat, 58]
def k0_off233 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4491 : Index := Scalar.indexCast v4
  let c7552 : Index := 7552#32
  ![v4491.toNat, 7552]
def k0_off234 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4503 : Index := Scalar.indexCast v4
  let c59 : Index := 59#32
  ![v4503.toNat, 59]
def k0_off235 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4567 : Index := Scalar.indexCast v4
  let c7680 : Index := 7680#32
  ![v4567.toNat, 7680]
def k0_off236 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4579 : Index := Scalar.indexCast v4
  let c60 : Index := 60#32
  ![v4579.toNat, 60]
def k0_off237 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4643 : Index := Scalar.indexCast v4
  let c7808 : Index := 7808#32
  ![v4643.toNat, 7808]
def k0_off238 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4655 : Index := Scalar.indexCast v4
  let c61 : Index := 61#32
  ![v4655.toNat, 61]
def k0_off239 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4719 : Index := Scalar.indexCast v4
  let c7936 : Index := 7936#32
  ![v4719.toNat, 7936]
def k0_off240 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4731 : Index := Scalar.indexCast v4
  let c62 : Index := 62#32
  ![v4731.toNat, 62]
def k0_off241 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4795 : Index := Scalar.indexCast v4
  let c8064 : Index := 8064#32
  ![v4795.toNat, 8064]
def k0_off242 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4807 : Index := Scalar.indexCast v4
  let c63 : Index := 63#32
  ![v4807.toNat, 63]
def k0_off243 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4871 : Index := Scalar.indexCast v4
  let c8192 : Index := 8192#32
  ![v4871.toNat, 8192]
def k0_off244 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4883 : Index := Scalar.indexCast v4
  let c64 : Index := 64#32
  ![v4883.toNat, 64]
def k0_off245 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4947 : Index := Scalar.indexCast v4
  let c8320 : Index := 8320#32
  ![v4947.toNat, 8320]
def k0_off246 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v4959 : Index := Scalar.indexCast v4
  let c65 : Index := 65#32
  ![v4959.toNat, 65]
def k0_off247 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5023 : Index := Scalar.indexCast v4
  let c8448 : Index := 8448#32
  ![v5023.toNat, 8448]
def k0_off248 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5035 : Index := Scalar.indexCast v4
  let c66 : Index := 66#32
  ![v5035.toNat, 66]
def k0_off249 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5099 : Index := Scalar.indexCast v4
  let c8576 : Index := 8576#32
  ![v5099.toNat, 8576]
def k0_off250 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5111 : Index := Scalar.indexCast v4
  let c67 : Index := 67#32
  ![v5111.toNat, 67]
def k0_off251 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5175 : Index := Scalar.indexCast v4
  let c8704 : Index := 8704#32
  ![v5175.toNat, 8704]
def k0_off252 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5187 : Index := Scalar.indexCast v4
  let c68 : Index := 68#32
  ![v5187.toNat, 68]
def k0_off253 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5251 : Index := Scalar.indexCast v4
  let c8832 : Index := 8832#32
  ![v5251.toNat, 8832]
def k0_off254 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5263 : Index := Scalar.indexCast v4
  let c69 : Index := 69#32
  ![v5263.toNat, 69]
def k0_off255 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5327 : Index := Scalar.indexCast v4
  let c8960 : Index := 8960#32
  ![v5327.toNat, 8960]
def k0_off256 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5339 : Index := Scalar.indexCast v4
  let c70 : Index := 70#32
  ![v5339.toNat, 70]
def k0_off257 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5403 : Index := Scalar.indexCast v4
  let c9088 : Index := 9088#32
  ![v5403.toNat, 9088]
def k0_off258 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5415 : Index := Scalar.indexCast v4
  let c71 : Index := 71#32
  ![v5415.toNat, 71]
def k0_off259 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5479 : Index := Scalar.indexCast v4
  let c9216 : Index := 9216#32
  ![v5479.toNat, 9216]
def k0_off260 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5491 : Index := Scalar.indexCast v4
  let c72 : Index := 72#32
  ![v5491.toNat, 72]
def k0_off261 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5555 : Index := Scalar.indexCast v4
  let c9344 : Index := 9344#32
  ![v5555.toNat, 9344]
def k0_off262 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5567 : Index := Scalar.indexCast v4
  let c73 : Index := 73#32
  ![v5567.toNat, 73]
def k0_off263 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5631 : Index := Scalar.indexCast v4
  let c9472 : Index := 9472#32
  ![v5631.toNat, 9472]
def k0_off264 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5643 : Index := Scalar.indexCast v4
  let c74 : Index := 74#32
  ![v5643.toNat, 74]
def k0_off265 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5707 : Index := Scalar.indexCast v4
  let c9600 : Index := 9600#32
  ![v5707.toNat, 9600]
def k0_off266 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5719 : Index := Scalar.indexCast v4
  let c75 : Index := 75#32
  ![v5719.toNat, 75]
def k0_off267 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5783 : Index := Scalar.indexCast v4
  let c9728 : Index := 9728#32
  ![v5783.toNat, 9728]
def k0_off268 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5795 : Index := Scalar.indexCast v4
  let c76 : Index := 76#32
  ![v5795.toNat, 76]
def k0_off269 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5859 : Index := Scalar.indexCast v4
  let c9856 : Index := 9856#32
  ![v5859.toNat, 9856]
def k0_off270 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5871 : Index := Scalar.indexCast v4
  let c77 : Index := 77#32
  ![v5871.toNat, 77]
def k0_off271 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5935 : Index := Scalar.indexCast v4
  let c9984 : Index := 9984#32
  ![v5935.toNat, 9984]
def k0_off272 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v5947 : Index := Scalar.indexCast v4
  let c78 : Index := 78#32
  ![v5947.toNat, 78]
def k0_off273 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6011 : Index := Scalar.indexCast v4
  let c10112 : Index := 10112#32
  ![v6011.toNat, 10112]
def k0_off274 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6023 : Index := Scalar.indexCast v4
  let c79 : Index := 79#32
  ![v6023.toNat, 79]
def k0_off275 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6087 : Index := Scalar.indexCast v4
  let c10240 : Index := 10240#32
  ![v6087.toNat, 10240]
def k0_off276 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6099 : Index := Scalar.indexCast v4
  let c80 : Index := 80#32
  ![v6099.toNat, 80]
def k0_off277 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6163 : Index := Scalar.indexCast v4
  let c10368 : Index := 10368#32
  ![v6163.toNat, 10368]
def k0_off278 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6175 : Index := Scalar.indexCast v4
  let c81 : Index := 81#32
  ![v6175.toNat, 81]
def k0_off279 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6239 : Index := Scalar.indexCast v4
  let c10496 : Index := 10496#32
  ![v6239.toNat, 10496]
def k0_off280 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6251 : Index := Scalar.indexCast v4
  let c82 : Index := 82#32
  ![v6251.toNat, 82]
def k0_off281 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6315 : Index := Scalar.indexCast v4
  let c10624 : Index := 10624#32
  ![v6315.toNat, 10624]
def k0_off282 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6327 : Index := Scalar.indexCast v4
  let c83 : Index := 83#32
  ![v6327.toNat, 83]
def k0_off283 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6391 : Index := Scalar.indexCast v4
  let c10752 : Index := 10752#32
  ![v6391.toNat, 10752]
def k0_off284 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6403 : Index := Scalar.indexCast v4
  let c84 : Index := 84#32
  ![v6403.toNat, 84]
def k0_off285 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6467 : Index := Scalar.indexCast v4
  let c10880 : Index := 10880#32
  ![v6467.toNat, 10880]
def k0_off286 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6479 : Index := Scalar.indexCast v4
  let c85 : Index := 85#32
  ![v6479.toNat, 85]
def k0_off287 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6543 : Index := Scalar.indexCast v4
  let c11008 : Index := 11008#32
  ![v6543.toNat, 11008]
def k0_off288 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6555 : Index := Scalar.indexCast v4
  let c86 : Index := 86#32
  ![v6555.toNat, 86]
def k0_off289 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6619 : Index := Scalar.indexCast v4
  let c11136 : Index := 11136#32
  ![v6619.toNat, 11136]
def k0_off290 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6631 : Index := Scalar.indexCast v4
  let c87 : Index := 87#32
  ![v6631.toNat, 87]
def k0_off291 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6695 : Index := Scalar.indexCast v4
  let c11264 : Index := 11264#32
  ![v6695.toNat, 11264]
def k0_off292 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6707 : Index := Scalar.indexCast v4
  let c88 : Index := 88#32
  ![v6707.toNat, 88]
def k0_off293 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6771 : Index := Scalar.indexCast v4
  let c11392 : Index := 11392#32
  ![v6771.toNat, 11392]
def k0_off294 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6783 : Index := Scalar.indexCast v4
  let c89 : Index := 89#32
  ![v6783.toNat, 89]
def k0_off295 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6847 : Index := Scalar.indexCast v4
  let c11520 : Index := 11520#32
  ![v6847.toNat, 11520]
def k0_off296 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6859 : Index := Scalar.indexCast v4
  let c90 : Index := 90#32
  ![v6859.toNat, 90]
def k0_off297 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6923 : Index := Scalar.indexCast v4
  let c11648 : Index := 11648#32
  ![v6923.toNat, 11648]
def k0_off298 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6935 : Index := Scalar.indexCast v4
  let c91 : Index := 91#32
  ![v6935.toNat, 91]
def k0_off299 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v6999 : Index := Scalar.indexCast v4
  let c11776 : Index := 11776#32
  ![v6999.toNat, 11776]
def k0_off300 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7011 : Index := Scalar.indexCast v4
  let c92 : Index := 92#32
  ![v7011.toNat, 92]
def k0_off301 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7075 : Index := Scalar.indexCast v4
  let c11904 : Index := 11904#32
  ![v7075.toNat, 11904]
def k0_off302 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7087 : Index := Scalar.indexCast v4
  let c93 : Index := 93#32
  ![v7087.toNat, 93]
def k0_off303 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7151 : Index := Scalar.indexCast v4
  let c12032 : Index := 12032#32
  ![v7151.toNat, 12032]
def k0_off304 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7163 : Index := Scalar.indexCast v4
  let c94 : Index := 94#32
  ![v7163.toNat, 94]
def k0_off305 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7227 : Index := Scalar.indexCast v4
  let c12160 : Index := 12160#32
  ![v7227.toNat, 12160]
def k0_off306 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7239 : Index := Scalar.indexCast v4
  let c95 : Index := 95#32
  ![v7239.toNat, 95]
def k0_off307 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7303 : Index := Scalar.indexCast v4
  let c12288 : Index := 12288#32
  ![v7303.toNat, 12288]
def k0_off308 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7315 : Index := Scalar.indexCast v4
  let c96 : Index := 96#32
  ![v7315.toNat, 96]
def k0_off309 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7379 : Index := Scalar.indexCast v4
  let c12416 : Index := 12416#32
  ![v7379.toNat, 12416]
def k0_off310 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7391 : Index := Scalar.indexCast v4
  let c97 : Index := 97#32
  ![v7391.toNat, 97]
def k0_off311 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7455 : Index := Scalar.indexCast v4
  let c12544 : Index := 12544#32
  ![v7455.toNat, 12544]
def k0_off312 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7467 : Index := Scalar.indexCast v4
  let c98 : Index := 98#32
  ![v7467.toNat, 98]
def k0_off313 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7531 : Index := Scalar.indexCast v4
  let c12672 : Index := 12672#32
  ![v7531.toNat, 12672]
def k0_off314 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7543 : Index := Scalar.indexCast v4
  let c99 : Index := 99#32
  ![v7543.toNat, 99]
def k0_off315 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7607 : Index := Scalar.indexCast v4
  let c12800 : Index := 12800#32
  ![v7607.toNat, 12800]
def k0_off316 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7619 : Index := Scalar.indexCast v4
  let c100 : Index := 100#32
  ![v7619.toNat, 100]
def k0_off317 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7683 : Index := Scalar.indexCast v4
  let c12928 : Index := 12928#32
  ![v7683.toNat, 12928]
def k0_off318 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7695 : Index := Scalar.indexCast v4
  let c101 : Index := 101#32
  ![v7695.toNat, 101]
def k0_off319 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7759 : Index := Scalar.indexCast v4
  let c13056 : Index := 13056#32
  ![v7759.toNat, 13056]
def k0_off320 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7771 : Index := Scalar.indexCast v4
  let c102 : Index := 102#32
  ![v7771.toNat, 102]
def k0_off321 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7835 : Index := Scalar.indexCast v4
  let c13184 : Index := 13184#32
  ![v7835.toNat, 13184]
def k0_off322 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7847 : Index := Scalar.indexCast v4
  let c103 : Index := 103#32
  ![v7847.toNat, 103]
def k0_off323 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7911 : Index := Scalar.indexCast v4
  let c13312 : Index := 13312#32
  ![v7911.toNat, 13312]
def k0_off324 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7923 : Index := Scalar.indexCast v4
  let c104 : Index := 104#32
  ![v7923.toNat, 104]
def k0_off325 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7987 : Index := Scalar.indexCast v4
  let c13440 : Index := 13440#32
  ![v7987.toNat, 13440]
def k0_off326 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v7999 : Index := Scalar.indexCast v4
  let c105 : Index := 105#32
  ![v7999.toNat, 105]
def k0_off327 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v8063 : Index := Scalar.indexCast v4
  let c13568 : Index := 13568#32
  ![v8063.toNat, 13568]
def k0_off328 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v8075 : Index := Scalar.indexCast v4
  let c106 : Index := 106#32
  ![v8075.toNat, 106]
def k0_off329 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v8139 : Index := Scalar.indexCast v4
  let c13696 : Index := 13696#32
  ![v8139.toNat, 13696]
def k0_off330 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v8151 : Index := Scalar.indexCast v4
  let c107 : Index := 107#32
  ![v8151.toNat, 107]
def k0_off331 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v8215 : Index := Scalar.indexCast v4
  let c13824 : Index := 13824#32
  ![v8215.toNat, 13824]
def k0_off332 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v8227 : Index := Scalar.indexCast v4
  let c108 : Index := 108#32
  ![v8227.toNat, 108]
def k0_off333 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v8291 : Index := Scalar.indexCast v4
  let c13952 : Index := 13952#32
  ![v8291.toNat, 13952]
def k0_off334 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v8303 : Index := Scalar.indexCast v4
  let c109 : Index := 109#32
  ![v8303.toNat, 109]
def k0_off335 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v8367 : Index := Scalar.indexCast v4
  let c14080 : Index := 14080#32
  ![v8367.toNat, 14080]
def k0_off336 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v8379 : Index := Scalar.indexCast v4
  let c110 : Index := 110#32
  ![v8379.toNat, 110]
def k0_off337 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v8443 : Index := Scalar.indexCast v4
  let c14208 : Index := 14208#32
  ![v8443.toNat, 14208]
def k0_off338 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v8455 : Index := Scalar.indexCast v4
  let c111 : Index := 111#32
  ![v8455.toNat, 111]
def k0_off339 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v8519 : Index := Scalar.indexCast v4
  let c0_2126 : Index := 0#32
  ![v8519.toNat, 0]
def k0_off340 (k0_t2 : Fin k0_t2_loop.trips) : Fin 2 → Nat :=
  let c0_i32_5 : BitVec 32 := 0#32
  let c0_i32_1 : BitVec 32 := 0#32
  let c1_i32_2 : BitVec 32 := 1#32
  let arg9 : BitVec 32 := Scf.iv c0_i32_1 c1_i32_2 k0_t2
  let c1_i32_4 : BitVec 32 := 1#32
  let v2 : BitVec 32 := Scalar.muli arg9 c1_i32_4
  let v3 : BitVec 32 := Scalar.addi c0_i32_5 v2
  let c32_i32 : BitVec 32 := 32#32
  let v4 : BitVec 32 := Scalar.muli v3 c32_i32
  let v8571 : Index := Scalar.indexCast v4
  let c0_2140 : Index := 0#32
  ![v8571.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x14336 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x14336 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x14336 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x14336 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x112 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S5x2048x14336 : Shape := ⟨3, ![5, 2048, 14336]⟩
abbrev S14336 : Shape := ⟨1, ![14336]⟩
abbrev S10240x112x128 : Shape := ⟨3, ![10240, 112, 128]⟩
abbrev S1x112x128 : Shape := ⟨3, ![1, 112, 128]⟩
abbrev S10240x14336 : Shape := ⟨2, ![10240, 14336]⟩
abbrev S10240x112 : Shape := ⟨2, ![10240, 112]⟩
abbrev S10240 : Shape := ⟨1, ![10240]⟩
abbrev S10240x1x1 : Shape := ⟨3, ![10240, 1, 1]⟩
abbrev S10240x112x1 : Shape := ⟨3, ![10240, 112, 1]⟩

abbrev nBuf : Space → Nat
  | .hbm => 9
  | .vmem => 6
  | .smem => 0
  | _ => 0

abbrev bufTy : (tb : Table) → Fin (tcTables nBuf tb) → BufTy
  | .hbm, ⟨0, _⟩ => ⟨S5x2048x14336, .bf16⟩
  | .hbm, ⟨1, _⟩ => ⟨S5x2048x14336, .bf16⟩
  | .hbm, ⟨2, _⟩ => ⟨S14336, .bf16⟩
  | .hbm, ⟨3, _⟩ => ⟨S10240x112x128, .bf16⟩
  | .hbm, ⟨4, _⟩ => ⟨S10240x112x128, .bf16⟩
  | .hbm, ⟨5, _⟩ => ⟨S1x112x128, .bf16⟩
  | .hbm, ⟨6, _⟩ => ⟨S10240x14336, .bf16⟩
  | .hbm, ⟨7, _⟩ => ⟨S10240x14336, .fp8e4m3⟩
  | .hbm, ⟨8, _⟩ => ⟨S10240x112, .f32⟩
  | .local _ .vmem, ⟨0, _⟩ => ⟨S10240x112x128, .bf16⟩
  | .local _ .vmem, ⟨1, _⟩ => ⟨S10240x112x128, .bf16⟩
  | .local _ .vmem, ⟨2, _⟩ => ⟨S1x112x128, .bf16⟩
  | .local _ .vmem, ⟨3, _⟩ => ⟨S10240x14336, .bf16⟩
  | .local _ .vmem, ⟨4, _⟩ => ⟨S10240x14336, .fp8e4m3⟩
  | .local _ .vmem, ⟨5, _⟩ => ⟨S10240x112, .f32⟩
  | _, _ => ⟨S5x2048x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S10240x112x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x112x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x112x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10240x14336 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10240x14336 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10240x112 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.BodyKernel.lean ====
/-
  The body of the kernel run once at symbolic operands: the two counted loops through their generated invariants
  (the pieces each trip stores), everything around them by `sl_exec`.
-/
module

public import proofs.«01_k».proof.Proof.Gen.Kernel.Launch
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Memref `M` on core `c` held at contents `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

section Run
variable (c : Dev nD) (i : grid0.Coords)
  (arg1 : Memref sig .tc .vmem S64x14336 .bf16) (harg1 : arg1.IsWhole) (arg2 : Memref sig .tc .vmem S64x14336 .bf16) (harg2 : arg2.IsWhole)
  (arg3 : Memref sig .tc .vmem S1x14336 .f32) (harg3 : arg3.IsWhole) (arg4 : Memref sig .tc .vmem S64x14336 .bf16) (harg4 : arg4.IsWhole)
  (arg5 : Memref sig .tc .vmem S64x14336 .fp8e4m3) (harg5 : arg5.IsWhole) (arg6 : Memref sig .tc .vmem S64x112 .f32) (harg6 : arg6.IsWhole)
  (arg7 : Memref sig .tc .vmem S64x128 .f32) (harg7 : arg7.IsWhole) (arg8 : Memref sig .tc .vmem S64x128 .f32) (harg8 : arg8.IsWhole)
  (f1 : BufTy.Contents (Elt F) arg1.view.ty) (f2 : BufTy.Contents (Elt F) arg2.view.ty) (f3 : BufTy.Contents (Elt F) arg3.view.ty)
  (f4 : BufTy.Contents (Elt F) arg4.view.ty) (f5 : BufTy.Contents (Elt F) arg5.view.ty) (f6 : BufTy.Contents (Elt F) arg6.view.ty)
  (f7 : BufTy.Contents (Elt F) arg7.view.ty) (f8 : BufTy.Contents (Elt F) arg8.view.ty)

/-- What the first loop stores: into the result `h`, and into the scratch of the row factors. -/
abbrev P1 := pb_k0_t1 (F := F) Variants.none c none i arg1 harg1 arg2 harg2 arg3 harg3 arg4 harg4 arg5 harg5 arg6 harg6 arg7 harg7 arg8 harg8 f1 f2 k0_t1_loop.trips

/-- What the second loop stores, over contents `g4` of the result `h` and `g7` of the row factors: into the codes, into the scales,
    and into the scratch of the block maxima. -/
abbrev P2 (g4 : BufTy.Contents (Elt F) arg4.view.ty) (g7 : BufTy.Contents (Elt F) arg7.view.ty) :=
  pb_k0_t2 (F := F) Variants.none c none i arg1 harg1 arg2 harg2 arg3 harg3 arg4 harg4 arg5 harg5 arg6 harg6 arg7 harg7 arg8 harg8 f3 g4 g7 f5 f6 f8 k0_t2_loop.trips

/-- The contents of the result `h` and of the row factors after the first loop. -/
abbrev g4 : BufTy.Contents (Elt F) arg4.view.ty :=
  arg4.view.writes (Elt F) f4 (P1 (F := F) c i arg1 harg1 arg2 harg2 arg3 harg3 arg4 harg4 arg5 harg5 arg6 harg6 arg7 harg7 arg8 harg8 f1 f2).1
abbrev g7 : BufTy.Contents (Elt F) arg7.view.ty :=
  arg7.view.writes (Elt F) f7 (P1 (F := F) c i arg1 harg1 arg2 harg2 arg3 harg3 arg4 harg4 arg5 harg5 arg6 harg6 arg7 harg7 arg8 harg8 f1 f2).2

/-- What the second loop stores after the first. -/
abbrev P := P2 (F := F) c i arg1 harg1 arg2 harg2 arg3 harg3 arg4 harg4 arg5 harg5 arg6 harg6 arg7 harg7 arg8 harg8 f3 f5 f6 f8
  (g4 (F := F) c i arg1 harg1 arg2 harg2 arg3 harg3 arg4 harg4 arg5 harg5 arg6 harg6 arg7 harg7 arg8 harg8 f1 f2 f4)
  (g7 (F := F) c i arg1 harg1 arg2 harg2 arg3 harg3 arg4 harg4 arg5 harg5 arg6 harg6 arg7 harg7 arg8 harg8 f1 f2 f7)

set_option maxHeartbeats 1000000 in
/-- From every operand held, the body runs to its return: the inputs as they were, the three results at the pieces the loops
    store, the two scratch buffers at something. -/
theorem bodyRun (E : Set ℕ) (K : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8
      ∗ (iprop(pt c arg1 f1 ∗ pt c arg2 f2 ∗ pt c arg3 f3
          ∗ pt c arg4 (g4 (F := F) c i arg1 harg1 arg2 harg2 arg3 harg3 arg4 harg4 arg5 harg5 arg6 harg6 arg7 harg7 arg8 harg8 f1 f2 f4)
          ∗ pt c arg5 (arg5.view.writes (Elt F) f5 (P (F := F) c i arg1 harg1 arg2 harg2 arg3 harg3 arg4 harg4 arg5 harg5 arg6 harg6 arg7 harg7 arg8 harg8 f1 f2 f3 f4 f5 f6 f7 f8).1)
          ∗ pt c arg6 (arg6.view.writes (Elt F) f6 (P (F := F) c i arg1 harg1 arg2 harg2 arg3 harg3 arg4 harg4 arg5 harg5 arg6 harg6 arg7 harg7 arg8 harg8 f1 f2 f3 f4 f5 f6 f7 f8).2.1)
          ∗ (∃ f, pt c arg7 f) ∗ (∃ f, pt c arg8 f)) -∗ K ⟨⟩))
    ⊢ wp Idealize.ShloMosaic.frame (wpE (defs₀ (F := F)) Variants.none c none) E
        (cc0_add_rmsnorm_fp8 i arg1 harg1 arg2 harg2 arg3 harg3 arg4 harg4 arg5 harg5 arg6 harg6 arg7 harg7 arg8 harg8) K := by
  rw [cc0_add_rmsnorm_fp8_eq_skeleton]; unfold cc0_add_rmsnorm_fp8_skel
  iintro ⟨H1, H2, H3, H4, H5, H6, H7, H8, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8
end Run

end Cert.Kernel.Hand

end
-- ==== Proof.FrameKernel.lean ====
/-
  The frame of the kernel at any float instance: the body at every grid point from `Hand.bodyRun`, the three results forgotten
  (nothing here reads what the kernel leaves in them), the launch by the pipeline library.
-/
module

public import proofs.«01_k».proof.Proof.BodyKernel
public import Idealize.ShloMosaic.Lib.Pipeline.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three results, forgotten. -/
def forgets : Fin 6 → Bool := fun | ⟨3, _⟩ => true | ⟨4, _⟩ => true | ⟨5, _⟩ => true | _ => false

/-- The proof data on core `c`: the arrays as the region finds them, each input's buffer left at its block, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
    | ⟨4, _⟩ => Pipeline.Dat.unnamed (cfg := cfg0) 4 t
    | ⟨5, _⟩ => Pipeline.Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X)
    ∗ (∃ X, owns (c : Thread nD τ) (st0_4 t) fullShare X)
    ∗ (∃ X, owns (c : Thread nD τ) (st0_5 t) fullShare X))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X)
    ∗ (∃ X, owns (c : Thread nD τ) (st0_4 t) fullShare X)
    ∗ (∃ X, owns (c : Thread nD τ) (st0_5 t) fullShare X))

/-- The class invariant, its scratch buffers named. -/
theorem PhiA_eq (c : Dev nD) : (Pipeline.ΦA (Val := Elt F) spec0 c : sProp 𝕄)
    = iprop(iprop((∃ f, pt c (Memref.whole cc0_scratch0) f) ∗ (∃ f, pt c (Memref.whole cc0_scratch1) f)) ∗ (∃ r, prngReg c r)) := by
  unfold Pipeline.ΦA; rw [scopedRest0_eq]
  have h7 : (Memref.whole (sig := sig) (κ := .tc) cc0_scratch0).view.set = Finset.univ := View.set_whole cc0_scratch0
  have h8 : (Memref.whole (sig := sig) (κ := .tc) cc0_scratch1).view.set = Finset.univ := View.set_whole cc0_scratch1
  simp only [pt, h7, h8]

theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl, PhiA_eq,
    show (dats m 0 c).owesAt () t.succ = (dats m 0 c).owesAt () t.castSucc from rfl, after0_0, after0_1, after0_2]
  unfold owns
  iintro ⟨⟨⟨⟨%f7, H7⟩, ⟨%f8, H8⟩⟩, HR⟩, Ho, ⟨%d0, %f0, %hf0, H0⟩, ⟨%d1, %f1, %hf1, H1⟩, ⟨%d2, %f2, %hf2, H2⟩, ⟨%d3, %f3, -, H3⟩, ⟨%d4, %f4, -, H4⟩, ⟨%d5, %f5, -, H5⟩⟩
  iapply (bodyRun c (grid0.coords t) _ _ _ _ _ _ _ _ _ _ _ _ _ _ _ _ f0 f1 f2 f3 f4 f5 f7 f8 Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  iintro ⟨H0, H1, H2, H3, H4, H5, H7, H8⟩
  isplitl [HR H7 H8]
  · isplitl [H7 H8]
    · isplitl [H7]; · iexact H7
      iexact H8
    iexact HR
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _, _; isplitr; swap; · iexact H3
    ipureintro; rfl
  isplitl [H4]
  · iexists _, _; isplitr; swap; · iexact H4
    ipureintro; rfl
  iexists _, _; isplitr; swap; · iexact H5
  ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
set_option maxHeartbeats 800000 in
/-- The launch: every array of the pipeline as the library says, every other unscoped buffer as launched, the counters at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c)⟩, h.2⟩) (run_main m ρ)

end Cert.Kernel.Hand

end
-- ==== Proof.BodyKernelIdeal.lean ====
/-
  The body of the kernel run once at symbolic operands: the two counted loops through their generated invariants
  (the pieces each trip stores), everything around them by `sl_exec`.
-/
module

public import proofs.«01_k».proof.Proof.Gen.KernelIdeal.Launch
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Memref `M` on core `c` held at contents `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

section Run
variable (c : Dev nD) (i : grid0.Coords)
  (arg1 : Memref sig .tc .vmem S64x14336 .bf16) (harg1 : arg1.IsWhole) (arg2 : Memref sig .tc .vmem S64x14336 .bf16) (harg2 : arg2.IsWhole)
  (arg3 : Memref sig .tc .vmem S1x14336 .f32) (harg3 : arg3.IsWhole) (arg4 : Memref sig .tc .vmem S64x14336 .bf16) (harg4 : arg4.IsWhole)
  (arg5 : Memref sig .tc .vmem S64x14336 .fp8e4m3) (harg5 : arg5.IsWhole) (arg6 : Memref sig .tc .vmem S64x112 .f32) (harg6 : arg6.IsWhole)
  (arg7 : Memref sig .tc .vmem S64x128 .f32) (harg7 : arg7.IsWhole) (arg8 : Memref sig .tc .vmem S64x128 .f32) (harg8 : arg8.IsWhole)
  (f1 : BufTy.Contents (Elt F) arg1.view.ty) (f2 : BufTy.Contents (Elt F) arg2.view.ty) (f3 : BufTy.Contents (Elt F) arg3.view.ty)
  (f4 : BufTy.Contents (Elt F) arg4.view.ty) (f5 : BufTy.Contents (Elt F) arg5.view.ty) (f6 : BufTy.Contents (Elt F) arg6.view.ty)
  (f7 : BufTy.Contents (Elt F) arg7.view.ty) (f8 : BufTy.Contents (Elt F) arg8.view.ty)

/-- What the first loop stores: into the result `h`, and into the scratch of the row factors. -/
abbrev P1 := pb_k0_t1 (F := F) Variants.none c none i arg1 harg1 arg2 harg2 arg3 harg3 arg4 harg4 arg5 harg5 arg6 harg6 arg7 harg7 arg8 harg8 f1 f2 k0_t1_loop.trips

/-- What the second loop stores, over contents `g4` of the result `h` and `g7` of the row factors: into the codes, into the scales,
    and into the scratch of the block maxima. -/
abbrev P2 (g4 : BufTy.Contents (Elt F) arg4.view.ty) (g7 : BufTy.Contents (Elt F) arg7.view.ty) :=
  pb_k0_t2 (F := F) Variants.none c none i arg1 harg1 arg2 harg2 arg3 harg3 arg4 harg4 arg5 harg5 arg6 harg6 arg7 harg7 arg8 harg8 f3 g4 g7 f5 f6 f8 k0_t2_loop.trips

/-- The contents of the result `h` and of the row factors after the first loop. -/
abbrev g4 : BufTy.Contents (Elt F) arg4.view.ty :=
  arg4.view.writes (Elt F) f4 (P1 (F := F) c i arg1 harg1 arg2 harg2 arg3 harg3 arg4 harg4 arg5 harg5 arg6 harg6 arg7 harg7 arg8 harg8 f1 f2).1
abbrev g7 : BufTy.Contents (Elt F) arg7.view.ty :=
  arg7.view.writes (Elt F) f7 (P1 (F := F) c i arg1 harg1 arg2 harg2 arg3 harg3 arg4 harg4 arg5 harg5 arg6 harg6 arg7 harg7 arg8 harg8 f1 f2).2

/-- What the second loop stores after the first. -/
abbrev P := P2 (F := F) c i arg1 harg1 arg2 harg2 arg3 harg3 arg4 harg4 arg5 harg5 arg6 harg6 arg7 harg7 arg8 harg8 f3 f5 f6 f8
  (g4 (F := F) c i arg1 harg1 arg2 harg2 arg3 harg3 arg4 harg4 arg5 harg5 arg6 harg6 arg7 harg7 arg8 harg8 f1 f2 f4)
  (g7 (F := F) c i arg1 harg1 arg2 harg2 arg3 harg3 arg4 harg4 arg5 harg5 arg6 harg6 arg7 harg7 arg8 harg8 f1 f2 f7)

set_option maxHeartbeats 1000000 in
/-- From every operand held, the body runs to its return: the inputs as they were, the three results at the pieces the loops
    store, the two scratch buffers at something. -/
theorem bodyRun (E : Set ℕ) (K : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8
      ∗ (iprop(pt c arg1 f1 ∗ pt c arg2 f2 ∗ pt c arg3 f3
          ∗ pt c arg4 (g4 (F := F) c i arg1 harg1 arg2 harg2 arg3 harg3 arg4 harg4 arg5 harg5 arg6 harg6 arg7 harg7 arg8 harg8 f1 f2 f4)
          ∗ pt c arg5 (arg5.view.writes (Elt F) f5 (P (F := F) c i arg1 harg1 arg2 harg2 arg3 harg3 arg4 harg4 arg5 harg5 arg6 harg6 arg7 harg7 arg8 harg8 f1 f2 f3 f4 f5 f6 f7 f8).1)
          ∗ pt c arg6 (arg6.view.writes (Elt F) f6 (P (F := F) c i arg1 harg1 arg2 harg2 arg3 harg3 arg4 harg4 arg5 harg5 arg6 harg6 arg7 harg7 arg8 harg8 f1 f2 f3 f4 f5 f6 f7 f8).2.1)
          ∗ (∃ f, pt c arg7 f) ∗ (∃ f, pt c arg8 f)) -∗ K ⟨⟩))
    ⊢ wp Idealize.ShloMosaic.frame (wpE (defs₀ (F := F)) Variants.none c none) E
        (cc0_add_rmsnorm_fp8 i arg1 harg1 arg2 harg2 arg3 harg3 arg4 harg4 arg5 harg5 arg6 harg6 arg7 harg7 arg8 harg8) K := by
  rw [cc0_add_rmsnorm_fp8_eq_skeleton]; unfold cc0_add_rmsnorm_fp8_skel
  iintro ⟨H1, H2, H3, H4, H5, H6, H7, H8, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8
end Run

end Cert.KernelIdeal.Hand

end
-- ==== Proof.FrameKernelIdeal.lean ====
/-
  The frame of the idealised kernel at any float instance: the body at every grid point from `Hand.bodyRun`, the three results forgotten
  (nothing here reads what the kernel leaves in them), the launch by the pipeline library.
-/
module

public import proofs.«01_k».proof.Proof.BodyKernelIdeal
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three results, forgotten. -/
def forgets : Fin 6 → Bool := fun | ⟨3, _⟩ => true | ⟨4, _⟩ => true | ⟨5, _⟩ => true | _ => false

/-- The proof data on core `c`: the arrays as the region finds them, each input's buffer left at its block, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
    | ⟨4, _⟩ => Pipeline.Dat.unnamed (cfg := cfg0) 4 t
    | ⟨5, _⟩ => Pipeline.Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X)
    ∗ (∃ X, owns (c : Thread nD τ) (st0_4 t) fullShare X)
    ∗ (∃ X, owns (c : Thread nD τ) (st0_5 t) fullShare X))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X)
    ∗ (∃ X, owns (c : Thread nD τ) (st0_4 t) fullShare X)
    ∗ (∃ X, owns (c : Thread nD τ) (st0_5 t) fullShare X))

/-- The class invariant, its scratch buffers named. -/
theorem PhiA_eq (c : Dev nD) : (Pipeline.ΦA (Val := Elt F) spec0 c : sProp 𝕄)
    = iprop(iprop((∃ f, pt c (Memref.whole cc0_scratch0) f) ∗ (∃ f, pt c (Memref.whole cc0_scratch1) f)) ∗ (∃ r, prngReg c r)) := by
  unfold Pipeline.ΦA; rw [scopedRest0_eq]
  have h7 : (Memref.whole (sig := sig) (κ := .tc) cc0_scratch0).view.set = Finset.univ := View.set_whole cc0_scratch0
  have h8 : (Memref.whole (sig := sig) (κ := .tc) cc0_scratch1).view.set = Finset.univ := View.set_whole cc0_scratch1
  simp only [pt, h7, h8]

theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl, PhiA_eq,
    show (dats m 0 c).owesAt () t.succ = (dats m 0 c).owesAt () t.castSucc from rfl, after0_0, after0_1, after0_2]
  unfold owns
  iintro ⟨⟨⟨⟨%f7, H7⟩, ⟨%f8, H8⟩⟩, HR⟩, Ho, ⟨%d0, %f0, %hf0, H0⟩, ⟨%d1, %f1, %hf1, H1⟩, ⟨%d2, %f2, %hf2, H2⟩, ⟨%d3, %f3, -, H3⟩, ⟨%d4, %f4, -, H4⟩, ⟨%d5, %f5, -, H5⟩⟩
  iapply (bodyRun c (grid0.coords t) _ _ _ _ _ _ _ _ _ _ _ _ _ _ _ _ f0 f1 f2 f3 f4 f5 f7 f8 Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  iintro ⟨H0, H1, H2, H3, H4, H5, H7, H8⟩
  isplitl [HR H7 H8]
  · isplitl [H7 H8]
    · isplitl [H7]; · iexact H7
      iexact H8
    iexact HR
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _, _; isplitr; swap; · iexact H3
    ipureintro; rfl
  isplitl [H4]
  · iexists _, _; isplitr; swap; · iexact H4
    ipureintro; rfl
  iexists _, _; isplitr; swap; · iexact H5
  ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
set_option maxHeartbeats 800000 in
/-- The launch: every array of the pipeline as the library says, every other unscoped buffer as launched, the counters at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c)⟩, h.2⟩) (run_main m ρ)

end Cert.KernelIdeal.Hand

end
-- ==== Proof.Tiles.lean ====
/-
  What one trip of each of the kernel's two loops stores, in the kernel's own vector operations: the first loop's 112 stores of `h`
  and its row factor from the running sum of squares, the second loop's 112 stores of codes and block maxima and its store of scales.
-/
module

public import proofs.«01_k».proof.Proof.BodyKernelIdeal

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The scaled block maximum, one half where it is below the least normal number. -/
def mV {s : Shape} (a : FVec F s .f32) : FVec F s .f32 :=
  select (cmpf .olt (mulf a (broadcast s (Scalar.ofBits .f32 0x3B124925#32))) (broadcast s (Scalar.ofBits .f32 0x00800000#32)))
    (broadcast s (Scalar.ofBits .f32 0x3F000000#32)) (mulf a (broadcast s (Scalar.ofBits .f32 0x3B124925#32)))

/-- One step of the search for the exponent field: the larger field where the float of its word is at most `m`. -/
def stepV {s : Shape} (m : FVec F s .f32) (w : BitVec 32) (f : IVec s 32) : IVec s 32 :=
  select (cmpf .oge m (bitcastToFloat .f32 (addi f (broadcast s w)))) (addi f (broadcast s w)) f

/-- The search. -/
def fieldV {s : Shape} (m : FVec F s .f32) : IVec s 32 :=
  stepV m 8388608#32 (stepV m 16777216#32 (stepV m 33554432#32 (stepV m 67108864#32 (stepV m 134217728#32
    (stepV m 268435456#32 (stepV m 528482304#32 (stepV m 1065353216#32 (broadcast s 8388608#32))))))))

/-- Every row's largest magnitude. -/
def aV (y : FVec F S32x128 .f32) : FVec F S32x1 .f32 :=
  shapeCast S32x1 (multiReduction .maximumf [1] S32 (absf y) 0xFF800000#32 reduces_S32x128_S32 (.inl rfl) rfl) shapeCasts_S32_S32x1

/-- The codes of one block of columns. -/
def codesV (y : FVec F S32x128 .f32) : FVec F S32x128 .fp8e4m3 :=
  truncf .fp8e4m3 (minimumf (broadcast S32x128 (Scalar.ofBits .f32 0x43E00000#32)) (maximumf (broadcast S32x128 (Scalar.ofBits .f32 0xC3E00000#32))
    (mulf y (bitcastToFloat .f32 (subi (broadcast S32x128 2122317824#32)
      (fieldV (mV (broadcastTo S32x128 (shapeCast S32x1 (aV y) shapeCasts_S32x1_S32x1) broadcasts_S32x1_S32x128)))))))) bitsLt_fp8e4m3_f32

/-- The scales of a block of maxima. -/
def scalesV {s : Shape} (a : FVec F s .f32) : FVec F s .f32 := bitcastToFloat .f32 (addi (fieldV (mV a)) (broadcast s 8388608#32))

section First
variable (arg1 arg2 : Memref sig .tc .vmem S64x14336 .bf16)
  (f1 : BufTy.Contents (Elt F) arg1.view.ty) (f2 : BufTy.Contents (Elt F) arg2.view.ty)

/-- The block of `h` at `off`. -/
def hV (off : Fin 2 → ℕ) (inb : ∀ a, off a + S16x128.size a ≤ S64x14336.size a) : FVec F S16x128 .bf16 :=
  addf (shapeCast S16x128 (arg1.view.readAt (Elt F) (Rect.unit (s := S64x14336) off S16x128.size inb).toLoadRect f1) shapeCasts_S16x128_S16x128)
    (shapeCast S16x128 (arg2.view.readAt (Elt F) (Rect.unit (s := S64x14336) off S16x128.size inb).toLoadRect f2) shapeCasts_S16x128_S16x128)

/-- Its squares. -/
def sqV (off : Fin 2 → ℕ) (inb : ∀ a, off a + S16x128.size a ≤ S64x14336.size a) : FVec F S16x128 .f32 :=
  mulf (extf .f32 (hV arg1 arg2 f1 f2 off inb) bitsLt_bf16_f32) (extf .f32 (hV arg1 arg2 f1 f2 off inb) bitsLt_bf16_f32)

/-- The stores of the first `n` blocks of `h`, rows from `16 k`. -/
inductive HP (k : ℕ) : ℕ → List (View.Piece (Elt F) S64x14336 .bf16) → Prop
  | nil : HP k 0 []
  | cons {n : ℕ} {L : List (View.Piece (Elt F) S64x14336 .bf16)} (off : Fin 2 → ℕ) (inb : ∀ a, off a + S16x128.size a ≤ S64x14336.size a)
      (h : off = ![16 * k, 128 * n]) (hL : HP k n L) : HP k (n + 1) (⟨Rect.unit (s := S64x14336) off S16x128.size inb, hV arg1 arg2 f1 f2 off inb⟩ :: L)

/-- The running sum of squares of the first `n` blocks. -/
inductive AccP (k : ℕ) : ℕ → FVec F S16x128 .f32 → Prop
  | one (off : Fin 2 → ℕ) (inb : ∀ a, off a + S16x128.size a ≤ S64x14336.size a) (h : off = ![16 * k, 128 * 0]) : AccP k 1 (sqV arg1 arg2 f1 f2 off inb)
  | add {n : ℕ} {A : FVec F S16x128 .f32} (off : Fin 2 → ℕ) (inb : ∀ a, off a + S16x128.size a ≤ S64x14336.size a)
      (h : off = ![16 * k, 128 * n]) (hA : AccP k n A) : AccP k (n + 1) (addf A (sqV arg1 arg2 f1 f2 off inb))
end First

section Second
variable (arg3 : Memref sig .tc .vmem S1x14336 .f32) (arg4 : Memref sig .tc .vmem S64x14336 .bf16) (arg7 : Memref sig .tc .vmem S64x128 .f32)
  (f3 : BufTy.Contents (Elt F) arg3.view.ty) (f4 : BufTy.Contents (Elt F) arg4.view.ty) (f7 : BufTy.Contents (Elt F) arg7.view.ty)

/-- The normalised values of the block at `off`, with the gains at `off3`. -/
def yV (k : Fin k0_t2_loop.trips) (off : Fin 2 → ℕ) (inb : ∀ a, off a + S32x128.size a ≤ S64x14336.size a)
    (off3 : Fin 2 → ℕ) (inb3 : ∀ a, off3 a + S1x128.size a ≤ S1x14336.size a) : FVec F S32x128 .f32 :=
  mulf (mulf (extf .f32 (shapeCast S32x128 (arg4.view.readAt (Elt F) (Rect.unit (s := S64x14336) off S32x128.size inb).toLoadRect f4) shapeCasts_S32x128_S32x128) bitsLt_bf16_f32)
      (arg7.view.readAt (Elt F) (Rect.unit (s := S64x128) (k0_off114 k) S32x128.size (k0_off114_inb k)).toLoadRect f7))
    (broadcastTo S32x128 (shapeCast S1x128 (arg3.view.readAt (Elt F) (Rect.unit (s := S1x14336) off3 S1x128.size inb3).toLoadRect f3) shapeCasts_S1x128_S1x128) broadcasts_S1x128_S32x128)

/-- The stores of the first `n` blocks of codes. -/
inductive CP (k : Fin k0_t2_loop.trips) : ℕ → List (View.Piece (Elt F) S64x14336 .fp8e4m3) → Prop
  | nil : CP k 0 []
  | cons {n : ℕ} {L : List (View.Piece (Elt F) S64x14336 .fp8e4m3)} (off : Fin 2 → ℕ) (inb : ∀ a, off a + S32x128.size a ≤ S64x14336.size a)
      (off3 : Fin 2 → ℕ) (inb3 : ∀ a, off3 a + S1x128.size a ≤ S1x14336.size a)
      (h : off = ![32 * k.val, 128 * n]) (h3 : off3 = ![0, 128 * n]) (hL : CP k n L) :
      CP k (n + 1) (⟨Rect.unit (s := S64x14336) off S32x128.size inb, codesV (yV arg3 arg4 arg7 f3 f4 f7 k off inb off3 inb3)⟩ :: L)

/-- The stores of the first `n` columns of block maxima. -/
inductive MP (k : Fin k0_t2_loop.trips) : ℕ → List (View.Piece (Elt F) S64x128 .f32) → Prop
  | nil : MP k 0 []
  | cons {n : ℕ} {L : List (View.Piece (Elt F) S64x128 .f32)} (off : Fin 2 → ℕ) (inb : ∀ a, off a + S32x128.size a ≤ S64x14336.size a)
      (off3 : Fin 2 → ℕ) (inb3 : ∀ a, off3 a + S1x128.size a ≤ S1x14336.size a) (off8 : Fin 2 → ℕ) (inb8 : ∀ a, off8 a + S32x1.size a ≤ S64x128.size a)
      (h : off = ![32 * k.val, 128 * n]) (h3 : off3 = ![0, 128 * n]) (h8 : off8 = ![32 * k.val, n]) (hL : MP k n L) :
      MP k (n + 1) (⟨Rect.unit (s := S64x128) off8 S32x1.size inb8,
        shapeCast S32x1 (aV (yV arg3 arg4 arg7 f3 f4 f7 k off inb off3 inb3)) shapeCasts_S32x1_S32x1⟩ :: L)
end Second

section Trips
variable (𝒱 : Variants) (c : Dev nD) (bd : Option 𝒱.V) (i : grid0.Coords)
  (arg1 : Memref sig .tc .vmem S64x14336 .bf16) (harg1 : arg1.IsWhole) (arg2 : Memref sig .tc .vmem S64x14336 .bf16) (harg2 : arg2.IsWhole)
  (arg3 : Memref sig .tc .vmem S1x14336 .f32) (harg3 : arg3.IsWhole) (arg4 : Memref sig .tc .vmem S64x14336 .bf16) (harg4 : arg4.IsWhole)
  (arg5 : Memref sig .tc .vmem S64x14336 .fp8e4m3) (harg5 : arg5.IsWhole) (arg6 : Memref sig .tc .vmem S64x112 .f32) (harg6 : arg6.IsWhole)
  (arg7 : Memref sig .tc .vmem S64x128 .f32) (harg7 : arg7.IsWhole) (arg8 : Memref sig .tc .vmem S64x128 .f32) (harg8 : arg8.IsWhole)
  (f1 : BufTy.Contents (Elt F) arg1.view.ty) (f2 : BufTy.Contents (Elt F) arg2.view.ty) (f3 : BufTy.Contents (Elt F) arg3.view.ty)
  (f4 : BufTy.Contents (Elt F) arg4.view.ty) (f7 : BufTy.Contents (Elt F) arg7.view.ty)
  (f5 : BufTy.Contents (Elt F) arg5.view.ty) (f6 : BufTy.Contents (Elt F) arg6.view.ty) (f8 : BufTy.Contents (Elt F) arg8.view.ty)

/-- One trip of the first loop stores the 112 blocks of `h`, -/
theorem trip1_h (k : Fin k0_t1_loop.trips) : HP arg1 arg2 f1 f2 k.val 112 (trip_k0_t1 (F := F) 𝒱 c bd i arg1 harg1 arg2 harg2 arg3 harg3 arg4 harg4 arg5 harg5 arg6 harg6 arg7 harg7 arg8 harg8 f1 f2 k).1 := by
  unfold trip_k0_t1
  exact (.cons (k0_off112 k) (k0_off112_inb k) (k0_off112_eq k)
    (.cons (k0_off111 k) (k0_off111_inb k) (k0_off111_eq k)
    (.cons (k0_off110 k) (k0_off110_inb k) (k0_off110_eq k)
    (.cons (k0_off109 k) (k0_off109_inb k) (k0_off109_eq k)
    (.cons (k0_off108 k) (k0_off108_inb k) (k0_off108_eq k)
    (.cons (k0_off107 k) (k0_off107_inb k) (k0_off107_eq k)
    (.cons (k0_off106 k) (k0_off106_inb k) (k0_off106_eq k)
    (.cons (k0_off105 k) (k0_off105_inb k) (k0_off105_eq k)
    (.cons (k0_off104 k) (k0_off104_inb k) (k0_off104_eq k)
    (.cons (k0_off103 k) (k0_off103_inb k) (k0_off103_eq k)
    (.cons (k0_off102 k) (k0_off102_inb k) (k0_off102_eq k)
    (.cons (k0_off101 k) (k0_off101_inb k) (k0_off101_eq k)
    (.cons (k0_off100 k) (k0_off100_inb k) (k0_off100_eq k)
    (.cons (k0_off99 k) (k0_off99_inb k) (k0_off99_eq k)
    (.cons (k0_off98 k) (k0_off98_inb k) (k0_off98_eq k)
    (.cons (k0_off97 k) (k0_off97_inb k) (k0_off97_eq k)
    (.cons (k0_off96 k) (k0_off96_inb k) (k0_off96_eq k)
    (.cons (k0_off95 k) (k0_off95_inb k) (k0_off95_eq k)
    (.cons (k0_off94 k) (k0_off94_inb k) (k0_off94_eq k)
    (.cons (k0_off93 k) (k0_off93_inb k) (k0_off93_eq k)
    (.cons (k0_off92 k) (k0_off92_inb k) (k0_off92_eq k)
    (.cons (k0_off91 k) (k0_off91_inb k) (k0_off91_eq k)
    (.cons (k0_off90 k) (k0_off90_inb k) (k0_off90_eq k)
    (.cons (k0_off89 k) (k0_off89_inb k) (k0_off89_eq k)
    (.cons (k0_off88 k) (k0_off88_inb k) (k0_off88_eq k)
    (.cons (k0_off87 k) (k0_off87_inb k) (k0_off87_eq k)
    (.cons (k0_off86 k) (k0_off86_inb k) (k0_off86_eq k)
    (.cons (k0_off85 k) (k0_off85_inb k) (k0_off85_eq k)
    (.cons (k0_off84 k) (k0_off84_inb k) (k0_off84_eq k)
    (.cons (k0_off83 k) (k0_off83_inb k) (k0_off83_eq k)
    (.cons (k0_off82 k) (k0_off82_inb k) (k0_off82_eq k)
    (.cons (k0_off81 k) (k0_off81_inb k) (k0_off81_eq k)
    (.cons (k0_off80 k) (k0_off80_inb k) (k0_off80_eq k)
    (.cons (k0_off79 k) (k0_off79_inb k) (k0_off79_eq k)
    (.cons (k0_off78 k) (k0_off78_inb k) (k0_off78_eq k)
    (.cons (k0_off77 k) (k0_off77_inb k) (k0_off77_eq k)
    (.cons (k0_off76 k) (k0_off76_inb k) (k0_off76_eq k)
    (.cons (k0_off75 k) (k0_off75_inb k) (k0_off75_eq k)
    (.cons (k0_off74 k) (k0_off74_inb k) (k0_off74_eq k)
    (.cons (k0_off73 k) (k0_off73_inb k) (k0_off73_eq k)
    (.cons (k0_off72 k) (k0_off72_inb k) (k0_off72_eq k)
    (.cons (k0_off71 k) (k0_off71_inb k) (k0_off71_eq k)
    (.cons (k0_off70 k) (k0_off70_inb k) (k0_off70_eq k)
    (.cons (k0_off69 k) (k0_off69_inb k) (k0_off69_eq k)
    (.cons (k0_off68 k) (k0_off68_inb k) (k0_off68_eq k)
    (.cons (k0_off67 k) (k0_off67_inb k) (k0_off67_eq k)
    (.cons (k0_off66 k) (k0_off66_inb k) (k0_off66_eq k)
    (.cons (k0_off65 k) (k0_off65_inb k) (k0_off65_eq k)
    (.cons (k0_off64 k) (k0_off64_inb k) (k0_off64_eq k)
    (.cons (k0_off63 k) (k0_off63_inb k) (k0_off63_eq k)
    (.cons (k0_off62 k) (k0_off62_inb k) (k0_off62_eq k)
    (.cons (k0_off61 k) (k0_off61_inb k) (k0_off61_eq k)
    (.cons (k0_off60 k) (k0_off60_inb k) (k0_off60_eq k)
    (.cons (k0_off59 k) (k0_off59_inb k) (k0_off59_eq k)
    (.cons (k0_off58 k) (k0_off58_inb k) (k0_off58_eq k)
    (.cons (k0_off57 k) (k0_off57_inb k) (k0_off57_eq k)
    (.cons (k0_off56 k) (k0_off56_inb k) (k0_off56_eq k)
    (.cons (k0_off55 k) (k0_off55_inb k) (k0_off55_eq k)
    (.cons (k0_off54 k) (k0_off54_inb k) (k0_off54_eq k)
    (.cons (k0_off53 k) (k0_off53_inb k) (k0_off53_eq k)
    (.cons (k0_off52 k) (k0_off52_inb k) (k0_off52_eq k)
    (.cons (k0_off51 k) (k0_off51_inb k) (k0_off51_eq k)
    (.cons (k0_off50 k) (k0_off50_inb k) (k0_off50_eq k)
    (.cons (k0_off49 k) (k0_off49_inb k) (k0_off49_eq k)
    (.cons (k0_off48 k) (k0_off48_inb k) (k0_off48_eq k)
    (.cons (k0_off47 k) (k0_off47_inb k) (k0_off47_eq k)
    (.cons (k0_off46 k) (k0_off46_inb k) (k0_off46_eq k)
    (.cons (k0_off45 k) (k0_off45_inb k) (k0_off45_eq k)
    (.cons (k0_off44 k) (k0_off44_inb k) (k0_off44_eq k)
    (.cons (k0_off43 k) (k0_off43_inb k) (k0_off43_eq k)
    (.cons (k0_off42 k) (k0_off42_inb k) (k0_off42_eq k)
    (.cons (k0_off41 k) (k0_off41_inb k) (k0_off41_eq k)
    (.cons (k0_off40 k) (k0_off40_inb k) (k0_off40_eq k)
    (.cons (k0_off39 k) (k0_off39_inb k) (k0_off39_eq k)
    (.cons (k0_off38 k) (k0_off38_inb k) (k0_off38_eq k)
    (.cons (k0_off37 k) (k0_off37_inb k) (k0_off37_eq k)
    (.cons (k0_off36 k) (k0_off36_inb k) (k0_off36_eq k)
    (.cons (k0_off35 k) (k0_off35_inb k) (k0_off35_eq k)
    (.cons (k0_off34 k) (k0_off34_inb k) (k0_off34_eq k)
    (.cons (k0_off33 k) (k0_off33_inb k) (k0_off33_eq k)
    (.cons (k0_off32 k) (k0_off32_inb k) (k0_off32_eq k)
    (.cons (k0_off31 k) (k0_off31_inb k) (k0_off31_eq k)
    (.cons (k0_off30 k) (k0_off30_inb k) (k0_off30_eq k)
    (.cons (k0_off29 k) (k0_off29_inb k) (k0_off29_eq k)
    (.cons (k0_off28 k) (k0_off28_inb k) (k0_off28_eq k)
    (.cons (k0_off27 k) (k0_off27_inb k) (k0_off27_eq k)
    (.cons (k0_off26 k) (k0_off26_inb k) (k0_off26_eq k)
    (.cons (k0_off25 k) (k0_off25_inb k) (k0_off25_eq k)
    (.cons (k0_off24 k) (k0_off24_inb k) (k0_off24_eq k)
    (.cons (k0_off23 k) (k0_off23_inb k) (k0_off23_eq k)
    (.cons (k0_off22 k) (k0_off22_inb k) (k0_off22_eq k)
    (.cons (k0_off21 k) (k0_off21_inb k) (k0_off21_eq k)
    (.cons (k0_off20 k) (k0_off20_inb k) (k0_off20_eq k)
    (.cons (k0_off19 k) (k0_off19_inb k) (k0_off19_eq k)
    (.cons (k0_off18 k) (k0_off18_inb k) (k0_off18_eq k)
    (.cons (k0_off17 k) (k0_off17_inb k) (k0_off17_eq k)
    (.cons (k0_off16 k) (k0_off16_inb k) (k0_off16_eq k)
    (.cons (k0_off15 k) (k0_off15_inb k) (k0_off15_eq k)
    (.cons (k0_off14 k) (k0_off14_inb k) (k0_off14_eq k)
    (.cons (k0_off13 k) (k0_off13_inb k) (k0_off13_eq k)
    (.cons (k0_off12 k) (k0_off12_inb k) (k0_off12_eq k)
    (.cons (k0_off11 k) (k0_off11_inb k) (k0_off11_eq k)
    (.cons (k0_off10 k) (k0_off10_inb k) (k0_off10_eq k)
    (.cons (k0_off9 k) (k0_off9_inb k) (k0_off9_eq k)
    (.cons (k0_off8 k) (k0_off8_inb k) (k0_off8_eq k)
    (.cons (k0_off7 k) (k0_off7_inb k) (k0_off7_eq k)
    (.cons (k0_off6 k) (k0_off6_inb k) (k0_off6_eq k)
    (.cons (k0_off5 k) (k0_off5_inb k) (k0_off5_eq k)
    (.cons (k0_off4 k) (k0_off4_inb k) (k0_off4_eq k)
    (.cons (k0_off3 k) (k0_off3_inb k) (k0_off3_eq k)
    (.cons (k0_off2 k) (k0_off2_inb k) (k0_off2_eq k)
    (.cons (k0_off1 k) (k0_off1_inb k) (k0_off1_eq k) .nil))))))))))))))))))))))))))))))))))))))))))))))))))))))))))))))))))))))))))))))))))))))))))))))))))))))))))))))))

/-- and the row factors from their sum of squares. -/
theorem trip1_rs (k : Fin k0_t1_loop.trips) : ∃ A : FVec F S16x128 .f32, AccP arg1 arg2 f1 f2 k.val 112 A ∧
    (trip_k0_t1 (F := F) 𝒱 c bd i arg1 harg1 arg2 harg2 arg3 harg3 arg4 harg4 arg5 harg5 arg6 harg6 arg7 harg7 arg8 harg8 f1 f2 k).2.1 = [⟨Rect.unit (s := S64x128) (k0_off113 k) S16x128.size (k0_off113_inb k),
      k0_pay1 (multiReduction .add [1] S16 A 0x00000000#32 reduces_S16x128_S16 (.inl rfl) rfl)⟩] := by
  refine ⟨_, (.add (k0_off112 k) (k0_off112_inb k) (k0_off112_eq k)
    (.add (k0_off111 k) (k0_off111_inb k) (k0_off111_eq k)
    (.add (k0_off110 k) (k0_off110_inb k) (k0_off110_eq k)
    (.add (k0_off109 k) (k0_off109_inb k) (k0_off109_eq k)
    (.add (k0_off108 k) (k0_off108_inb k) (k0_off108_eq k)
    (.add (k0_off107 k) (k0_off107_inb k) (k0_off107_eq k)
    (.add (k0_off106 k) (k0_off106_inb k) (k0_off106_eq k)
    (.add (k0_off105 k) (k0_off105_inb k) (k0_off105_eq k)
    (.add (k0_off104 k) (k0_off104_inb k) (k0_off104_eq k)
    (.add (k0_off103 k) (k0_off103_inb k) (k0_off103_eq k)
    (.add (k0_off102 k) (k0_off102_inb k) (k0_off102_eq k)
    (.add (k0_off101 k) (k0_off101_inb k) (k0_off101_eq k)
    (.add (k0_off100 k) (k0_off100_inb k) (k0_off100_eq k)
    (.add (k0_off99 k) (k0_off99_inb k) (k0_off99_eq k)
    (.add (k0_off98 k) (k0_off98_inb k) (k0_off98_eq k)
    (.add (k0_off97 k) (k0_off97_inb k) (k0_off97_eq k)
    (.add (k0_off96 k) (k0_off96_inb k) (k0_off96_eq k)
    (.add (k0_off95 k) (k0_off95_inb k) (k0_off95_eq k)
    (.add (k0_off94 k) (k0_off94_inb k) (k0_off94_eq k)
    (.add (k0_off93 k) (k0_off93_inb k) (k0_off93_eq k)
    (.add (k0_off92 k) (k0_off92_inb k) (k0_off92_eq k)
    (.add (k0_off91 k) (k0_off91_inb k) (k0_off91_eq k)
    (.add (k0_off90 k) (k0_off90_inb k) (k0_off90_eq k)
    (.add (k0_off89 k) (k0_off89_inb k) (k0_off89_eq k)
    (.add (k0_off88 k) (k0_off88_inb k) (k0_off88_eq k)
    (.add (k0_off87 k) (k0_off87_inb k) (k0_off87_eq k)
    (.add (k0_off86 k) (k0_off86_inb k) (k0_off86_eq k)
    (.add (k0_off85 k) (k0_off85_inb k) (k0_off85_eq k)
    (.add (k0_off84 k) (k0_off84_inb k) (k0_off84_eq k)
    (.add (k0_off83 k) (k0_off83_inb k) (k0_off83_eq k)
    (.add (k0_off82 k) (k0_off82_inb k) (k0_off82_eq k)
    (.add (k0_off81 k) (k0_off81_inb k) (k0_off81_eq k)
    (.add (k0_off80 k) (k0_off80_inb k) (k0_off80_eq k)
    (.add (k0_off79 k) (k0_off79_inb k) (k0_off79_eq k)
    (.add (k0_off78 k) (k0_off78_inb k) (k0_off78_eq k)
    (.add (k0_off77 k) (k0_off77_inb k) (k0_off77_eq k)
    (.add (k0_off76 k) (k0_off76_inb k) (k0_off76_eq k)
    (.add (k0_off75 k) (k0_off75_inb k) (k0_off75_eq k)
    (.add (k0_off74 k) (k0_off74_inb k) (k0_off74_eq k)
    (.add (k0_off73 k) (k0_off73_inb k) (k0_off73_eq k)
    (.add (k0_off72 k) (k0_off72_inb k) (k0_off72_eq k)
    (.add (k0_off71 k) (k0_off71_inb k) (k0_off71_eq k)
    (.add (k0_off70 k) (k0_off70_inb k) (k0_off70_eq k)
    (.add (k0_off69 k) (k0_off69_inb k) (k0_off69_eq k)
    (.add (k0_off68 k) (k0_off68_inb k) (k0_off68_eq k)
    (.add (k0_off67 k) (k0_off67_inb k) (k0_off67_eq k)
    (.add (k0_off66 k) (k0_off66_inb k) (k0_off66_eq k)
    (.add (k0_off65 k) (k0_off65_inb k) (k0_off65_eq k)
    (.add (k0_off64 k) (k0_off64_inb k) (k0_off64_eq k)
    (.add (k0_off63 k) (k0_off63_inb k) (k0_off63_eq k)
    (.add (k0_off62 k) (k0_off62_inb k) (k0_off62_eq k)
    (.add (k0_off61 k) (k0_off61_inb k) (k0_off61_eq k)
    (.add (k0_off60 k) (k0_off60_inb k) (k0_off60_eq k)
    (.add (k0_off59 k) (k0_off59_inb k) (k0_off59_eq k)
    (.add (k0_off58 k) (k0_off58_inb k) (k0_off58_eq k)
    (.add (k0_off57 k) (k0_off57_inb k) (k0_off57_eq k)
    (.add (k0_off56 k) (k0_off56_inb k) (k0_off56_eq k)
    (.add (k0_off55 k) (k0_off55_inb k) (k0_off55_eq k)
    (.add (k0_off54 k) (k0_off54_inb k) (k0_off54_eq k)
    (.add (k0_off53 k) (k0_off53_inb k) (k0_off53_eq k)
    (.add (k0_off52 k) (k0_off52_inb k) (k0_off52_eq k)
    (.add (k0_off51 k) (k0_off51_inb k) (k0_off51_eq k)
    (.add (k0_off50 k) (k0_off50_inb k) (k0_off50_eq k)
    (.add (k0_off49 k) (k0_off49_inb k) (k0_off49_eq k)
    (.add (k0_off48 k) (k0_off48_inb k) (k0_off48_eq k)
    (.add (k0_off47 k) (k0_off47_inb k) (k0_off47_eq k)
    (.add (k0_off46 k) (k0_off46_inb k) (k0_off46_eq k)
    (.add (k0_off45 k) (k0_off45_inb k) (k0_off45_eq k)
    (.add (k0_off44 k) (k0_off44_inb k) (k0_off44_eq k)
    (.add (k0_off43 k) (k0_off43_inb k) (k0_off43_eq k)
    (.add (k0_off42 k) (k0_off42_inb k) (k0_off42_eq k)
    (.add (k0_off41 k) (k0_off41_inb k) (k0_off41_eq k)
    (.add (k0_off40 k) (k0_off40_inb k) (k0_off40_eq k)
    (.add (k0_off39 k) (k0_off39_inb k) (k0_off39_eq k)
    (.add (k0_off38 k) (k0_off38_inb k) (k0_off38_eq k)
    (.add (k0_off37 k) (k0_off37_inb k) (k0_off37_eq k)
    (.add (k0_off36 k) (k0_off36_inb k) (k0_off36_eq k)
    (.add (k0_off35 k) (k0_off35_inb k) (k0_off35_eq k)
    (.add (k0_off34 k) (k0_off34_inb k) (k0_off34_eq k)
    (.add (k0_off33 k) (k0_off33_inb k) (k0_off33_eq k)
    (.add (k0_off32 k) (k0_off32_inb k) (k0_off32_eq k)
    (.add (k0_off31 k) (k0_off31_inb k) (k0_off31_eq k)
    (.add (k0_off30 k) (k0_off30_inb k) (k0_off30_eq k)
    (.add (k0_off29 k) (k0_off29_inb k) (k0_off29_eq k)
    (.add (k0_off28 k) (k0_off28_inb k) (k0_off28_eq k)
    (.add (k0_off27 k) (k0_off27_inb k) (k0_off27_eq k)
    (.add (k0_off26 k) (k0_off26_inb k) (k0_off26_eq k)
    (.add (k0_off25 k) (k0_off25_inb k) (k0_off25_eq k)
    (.add (k0_off24 k) (k0_off24_inb k) (k0_off24_eq k)
    (.add (k0_off23 k) (k0_off23_inb k) (k0_off23_eq k)
    (.add (k0_off22 k) (k0_off22_inb k) (k0_off22_eq k)
    (.add (k0_off21 k) (k0_off21_inb k) (k0_off21_eq k)
    (.add (k0_off20 k) (k0_off20_inb k) (k0_off20_eq k)
    (.add (k0_off19 k) (k0_off19_inb k) (k0_off19_eq k)
    (.add (k0_off18 k) (k0_off18_inb k) (k0_off18_eq k)
    (.add (k0_off17 k) (k0_off17_inb k) (k0_off17_eq k)
    (.add (k0_off16 k) (k0_off16_inb k) (k0_off16_eq k)
    (.add (k0_off15 k) (k0_off15_inb k) (k0_off15_eq k)
    (.add (k0_off14 k) (k0_off14_inb k) (k0_off14_eq k)
    (.add (k0_off13 k) (k0_off13_inb k) (k0_off13_eq k)
    (.add (k0_off12 k) (k0_off12_inb k) (k0_off12_eq k)
    (.add (k0_off11 k) (k0_off11_inb k) (k0_off11_eq k)
    (.add (k0_off10 k) (k0_off10_inb k) (k0_off10_eq k)
    (.add (k0_off9 k) (k0_off9_inb k) (k0_off9_eq k)
    (.add (k0_off8 k) (k0_off8_inb k) (k0_off8_eq k)
    (.add (k0_off7 k) (k0_off7_inb k) (k0_off7_eq k)
    (.add (k0_off6 k) (k0_off6_inb k) (k0_off6_eq k)
    (.add (k0_off5 k) (k0_off5_inb k) (k0_off5_eq k)
    (.add (k0_off4 k) (k0_off4_inb k) (k0_off4_eq k)
    (.add (k0_off3 k) (k0_off3_inb k) (k0_off3_eq k)
    (.add (k0_off2 k) (k0_off2_inb k) (k0_off2_eq k) (.one (k0_off1 k) (k0_off1_inb k) (k0_off1_eq k))))))))))))))))))))))))))))))))))))))))))))))))))))))))))))))))))))))))))))))))))))))))))))))))))))))))))))))))), ?_⟩
  unfold trip_k0_t1
  rfl

/-- One trip of the second loop stores the 112 blocks of codes, -/
theorem trip2_codes (k : Fin k0_t2_loop.trips) : CP arg3 arg4 arg7 f3 f4 f7 k 112 ((trip_k0_t2 (F := F) 𝒱 c bd i arg1 harg1 arg2 harg2 arg3 harg3 arg4 harg4 arg5 harg5 arg6 harg6 arg7 harg7 arg8 harg8 f3 f4 f7 k).1 f5 f6 f8) := by
  unfold trip_k0_t2
  exact (.cons (k0_off337 k) (k0_off337_inb k) ![0, 14208] inb_S1x14336_S1x128_0_14208 (k0_off337_eq k) rfl
    (.cons (k0_off335 k) (k0_off335_inb k) ![0, 14080] inb_S1x14336_S1x128_0_14080 (k0_off335_eq k) rfl
    (.cons (k0_off333 k) (k0_off333_inb k) ![0, 13952] inb_S1x14336_S1x128_0_13952 (k0_off333_eq k) rfl
    (.cons (k0_off331 k) (k0_off331_inb k) ![0, 13824] inb_S1x14336_S1x128_0_13824 (k0_off331_eq k) rfl
    (.cons (k0_off329 k) (k0_off329_inb k) ![0, 13696] inb_S1x14336_S1x128_0_13696 (k0_off329_eq k) rfl
    (.cons (k0_off327 k) (k0_off327_inb k) ![0, 13568] inb_S1x14336_S1x128_0_13568 (k0_off327_eq k) rfl
    (.cons (k0_off325 k) (k0_off325_inb k) ![0, 13440] inb_S1x14336_S1x128_0_13440 (k0_off325_eq k) rfl
    (.cons (k0_off323 k) (k0_off323_inb k) ![0, 13312] inb_S1x14336_S1x128_0_13312 (k0_off323_eq k) rfl
    (.cons (k0_off321 k) (k0_off321_inb k) ![0, 13184] inb_S1x14336_S1x128_0_13184 (k0_off321_eq k) rfl
    (.cons (k0_off319 k) (k0_off319_inb k) ![0, 13056] inb_S1x14336_S1x128_0_13056 (k0_off319_eq k) rfl
    (.cons (k0_off317 k) (k0_off317_inb k) ![0, 12928] inb_S1x14336_S1x128_0_12928 (k0_off317_eq k) rfl
    (.cons (k0_off315 k) (k0_off315_inb k) ![0, 12800] inb_S1x14336_S1x128_0_12800 (k0_off315_eq k) rfl
    (.cons (k0_off313 k) (k0_off313_inb k) ![0, 12672] inb_S1x14336_S1x128_0_12672 (k0_off313_eq k) rfl
    (.cons (k0_off311 k) (k0_off311_inb k) ![0, 12544] inb_S1x14336_S1x128_0_12544 (k0_off311_eq k) rfl
    (.cons (k0_off309 k) (k0_off309_inb k) ![0, 12416] inb_S1x14336_S1x128_0_12416 (k0_off309_eq k) rfl
    (.cons (k0_off307 k) (k0_off307_inb k) ![0, 12288] inb_S1x14336_S1x128_0_12288 (k0_off307_eq k) rfl
    (.cons (k0_off305 k) (k0_off305_inb k) ![0, 12160] inb_S1x14336_S1x128_0_12160 (k0_off305_eq k) rfl
    (.cons (k0_off303 k) (k0_off303_inb k) ![0, 12032] inb_S1x14336_S1x128_0_12032 (k0_off303_eq k) rfl
    (.cons (k0_off301 k) (k0_off301_inb k) ![0, 11904] inb_S1x14336_S1x128_0_11904 (k0_off301_eq k) rfl
    (.cons (k0_off299 k) (k0_off299_inb k) ![0, 11776] inb_S1x14336_S1x128_0_11776 (k0_off299_eq k) rfl
    (.cons (k0_off297 k) (k0_off297_inb k) ![0, 11648] inb_S1x14336_S1x128_0_11648 (k0_off297_eq k) rfl
    (.cons (k0_off295 k) (k0_off295_inb k) ![0, 11520] inb_S1x14336_S1x128_0_11520 (k0_off295_eq k) rfl
    (.cons (k0_off293 k) (k0_off293_inb k) ![0, 11392] inb_S1x14336_S1x128_0_11392 (k0_off293_eq k) rfl
    (.cons (k0_off291 k) (k0_off291_inb k) ![0, 11264] inb_S1x14336_S1x128_0_11264 (k0_off291_eq k) rfl
    (.cons (k0_off289 k) (k0_off289_inb k) ![0, 11136] inb_S1x14336_S1x128_0_11136 (k0_off289_eq k) rfl
    (.cons (k0_off287 k) (k0_off287_inb k) ![0, 11008] inb_S1x14336_S1x128_0_11008 (k0_off287_eq k) rfl
    (.cons (k0_off285 k) (k0_off285_inb k) ![0, 10880] inb_S1x14336_S1x128_0_10880 (k0_off285_eq k) rfl
    (.cons (k0_off283 k) (k0_off283_inb k) ![0, 10752] inb_S1x14336_S1x128_0_10752 (k0_off283_eq k) rfl
    (.cons (k0_off281 k) (k0_off281_inb k) ![0, 10624] inb_S1x14336_S1x128_0_10624 (k0_off281_eq k) rfl
    (.cons (k0_off279 k) (k0_off279_inb k) ![0, 10496] inb_S1x14336_S1x128_0_10496 (k0_off279_eq k) rfl
    (.cons (k0_off277 k) (k0_off277_inb k) ![0, 10368] inb_S1x14336_S1x128_0_10368 (k0_off277_eq k) rfl
    (.cons (k0_off275 k) (k0_off275_inb k) ![0, 10240] inb_S1x14336_S1x128_0_10240 (k0_off275_eq k) rfl
    (.cons (k0_off273 k) (k0_off273_inb k) ![0, 10112] inb_S1x14336_S1x128_0_10112 (k0_off273_eq k) rfl
    (.cons (k0_off271 k) (k0_off271_inb k) ![0, 9984] inb_S1x14336_S1x128_0_9984 (k0_off271_eq k) rfl
    (.cons (k0_off269 k) (k0_off269_inb k) ![0, 9856] inb_S1x14336_S1x128_0_9856 (k0_off269_eq k) rfl
    (.cons (k0_off267 k) (k0_off267_inb k) ![0, 9728] inb_S1x14336_S1x128_0_9728 (k0_off267_eq k) rfl
    (.cons (k0_off265 k) (k0_off265_inb k) ![0, 9600] inb_S1x14336_S1x128_0_9600 (k0_off265_eq k) rfl
    (.cons (k0_off263 k) (k0_off263_inb k) ![0, 9472] inb_S1x14336_S1x128_0_9472 (k0_off263_eq k) rfl
    (.cons (k0_off261 k) (k0_off261_inb k) ![0, 9344] inb_S1x14336_S1x128_0_9344 (k0_off261_eq k) rfl
    (.cons (k0_off259 k) (k0_off259_inb k) ![0, 9216] inb_S1x14336_S1x128_0_9216 (k0_off259_eq k) rfl
    (.cons (k0_off257 k) (k0_off257_inb k) ![0, 9088] inb_S1x14336_S1x128_0_9088 (k0_off257_eq k) rfl
    (.cons (k0_off255 k) (k0_off255_inb k) ![0, 8960] inb_S1x14336_S1x128_0_8960 (k0_off255_eq k) rfl
    (.cons (k0_off253 k) (k0_off253_inb k) ![0, 8832] inb_S1x14336_S1x128_0_8832 (k0_off253_eq k) rfl
    (.cons (k0_off251 k) (k0_off251_inb k) ![0, 8704] inb_S1x14336_S1x128_0_8704 (k0_off251_eq k) rfl
    (.cons (k0_off249 k) (k0_off249_inb k) ![0, 8576] inb_S1x14336_S1x128_0_8576 (k0_off249_eq k) rfl
    (.cons (k0_off247 k) (k0_off247_inb k) ![0, 8448] inb_S1x14336_S1x128_0_8448 (k0_off247_eq k) rfl
    (.cons (k0_off245 k) (k0_off245_inb k) ![0, 8320] inb_S1x14336_S1x128_0_8320 (k0_off245_eq k) rfl
    (.cons (k0_off243 k) (k0_off243_inb k) ![0, 8192] inb_S1x14336_S1x128_0_8192 (k0_off243_eq k) rfl
    (.cons (k0_off241 k) (k0_off241_inb k) ![0, 8064] inb_S1x14336_S1x128_0_8064 (k0_off241_eq k) rfl
    (.cons (k0_off239 k) (k0_off239_inb k) ![0, 7936] inb_S1x14336_S1x128_0_7936 (k0_off239_eq k) rfl
    (.cons (k0_off237 k) (k0_off237_inb k) ![0, 7808] inb_S1x14336_S1x128_0_7808 (k0_off237_eq k) rfl
    (.cons (k0_off235 k) (k0_off235_inb k) ![0, 7680] inb_S1x14336_S1x128_0_7680 (k0_off235_eq k) rfl
    (.cons (k0_off233 k) (k0_off233_inb k) ![0, 7552] inb_S1x14336_S1x128_0_7552 (k0_off233_eq k) rfl
    (.cons (k0_off231 k) (k0_off231_inb k) ![0, 7424] inb_S1x14336_S1x128_0_7424 (k0_off231_eq k) rfl
    (.cons (k0_off229 k) (k0_off229_inb k) ![0, 7296] inb_S1x14336_S1x128_0_7296 (k0_off229_eq k) rfl
    (.cons (k0_off227 k) (k0_off227_inb k) ![0, 7168] inb_S1x14336_S1x128_0_7168 (k0_off227_eq k) rfl
    (.cons (k0_off225 k) (k0_off225_inb k) ![0, 7040] inb_S1x14336_S1x128_0_7040 (k0_off225_eq k) rfl
    (.cons (k0_off223 k) (k0_off223_inb k) ![0, 6912] inb_S1x14336_S1x128_0_6912 (k0_off223_eq k) rfl
    (.cons (k0_off221 k) (k0_off221_inb k) ![0, 6784] inb_S1x14336_S1x128_0_6784 (k0_off221_eq k) rfl
    (.cons (k0_off219 k) (k0_off219_inb k) ![0, 6656] inb_S1x14336_S1x128_0_6656 (k0_off219_eq k) rfl
    (.cons (k0_off217 k) (k0_off217_inb k) ![0, 6528] inb_S1x14336_S1x128_0_6528 (k0_off217_eq k) rfl
    (.cons (k0_off215 k) (k0_off215_inb k) ![0, 6400] inb_S1x14336_S1x128_0_6400 (k0_off215_eq k) rfl
    (.cons (k0_off213 k) (k0_off213_inb k) ![0, 6272] inb_S1x14336_S1x128_0_6272 (k0_off213_eq k) rfl
    (.cons (k0_off211 k) (k0_off211_inb k) ![0, 6144] inb_S1x14336_S1x128_0_6144 (k0_off211_eq k) rfl
    (.cons (k0_off209 k) (k0_off209_inb k) ![0, 6016] inb_S1x14336_S1x128_0_6016 (k0_off209_eq k) rfl
    (.cons (k0_off207 k) (k0_off207_inb k) ![0, 5888] inb_S1x14336_S1x128_0_5888 (k0_off207_eq k) rfl
    (.cons (k0_off205 k) (k0_off205_inb k) ![0, 5760] inb_S1x14336_S1x128_0_5760 (k0_off205_eq k) rfl
    (.cons (k0_off203 k) (k0_off203_inb k) ![0, 5632] inb_S1x14336_S1x128_0_5632 (k0_off203_eq k) rfl
    (.cons (k0_off201 k) (k0_off201_inb k) ![0, 5504] inb_S1x14336_S1x128_0_5504 (k0_off201_eq k) rfl
    (.cons (k0_off199 k) (k0_off199_inb k) ![0, 5376] inb_S1x14336_S1x128_0_5376 (k0_off199_eq k) rfl
    (.cons (k0_off197 k) (k0_off197_inb k) ![0, 5248] inb_S1x14336_S1x128_0_5248 (k0_off197_eq k) rfl
    (.cons (k0_off195 k) (k0_off195_inb k) ![0, 5120] inb_S1x14336_S1x128_0_5120 (k0_off195_eq k) rfl
    (.cons (k0_off193 k) (k0_off193_inb k) ![0, 4992] inb_S1x14336_S1x128_0_4992 (k0_off193_eq k) rfl
    (.cons (k0_off191 k) (k0_off191_inb k) ![0, 4864] inb_S1x14336_S1x128_0_4864 (k0_off191_eq k) rfl
    (.cons (k0_off189 k) (k0_off189_inb k) ![0, 4736] inb_S1x14336_S1x128_0_4736 (k0_off189_eq k) rfl
    (.cons (k0_off187 k) (k0_off187_inb k) ![0, 4608] inb_S1x14336_S1x128_0_4608 (k0_off187_eq k) rfl
    (.cons (k0_off185 k) (k0_off185_inb k) ![0, 4480] inb_S1x14336_S1x128_0_4480 (k0_off185_eq k) rfl
    (.cons (k0_off183 k) (k0_off183_inb k) ![0, 4352] inb_S1x14336_S1x128_0_4352 (k0_off183_eq k) rfl
    (.cons (k0_off181 k) (k0_off181_inb k) ![0, 4224] inb_S1x14336_S1x128_0_4224 (k0_off181_eq k) rfl
    (.cons (k0_off179 k) (k0_off179_inb k) ![0, 4096] inb_S1x14336_S1x128_0_4096 (k0_off179_eq k) rfl
    (.cons (k0_off177 k) (k0_off177_inb k) ![0, 3968] inb_S1x14336_S1x128_0_3968 (k0_off177_eq k) rfl
    (.cons (k0_off175 k) (k0_off175_inb k) ![0, 3840] inb_S1x14336_S1x128_0_3840 (k0_off175_eq k) rfl
    (.cons (k0_off173 k) (k0_off173_inb k) ![0, 3712] inb_S1x14336_S1x128_0_3712 (k0_off173_eq k) rfl
    (.cons (k0_off171 k) (k0_off171_inb k) ![0, 3584] inb_S1x14336_S1x128_0_3584 (k0_off171_eq k) rfl
    (.cons (k0_off169 k) (k0_off169_inb k) ![0, 3456] inb_S1x14336_S1x128_0_3456 (k0_off169_eq k) rfl
    (.cons (k0_off167 k) (k0_off167_inb k) ![0, 3328] inb_S1x14336_S1x128_0_3328 (k0_off167_eq k) rfl
    (.cons (k0_off165 k) (k0_off165_inb k) ![0, 3200] inb_S1x14336_S1x128_0_3200 (k0_off165_eq k) rfl
    (.cons (k0_off163 k) (k0_off163_inb k) ![0, 3072] inb_S1x14336_S1x128_0_3072 (k0_off163_eq k) rfl
    (.cons (k0_off161 k) (k0_off161_inb k) ![0, 2944] inb_S1x14336_S1x128_0_2944 (k0_off161_eq k) rfl
    (.cons (k0_off159 k) (k0_off159_inb k) ![0, 2816] inb_S1x14336_S1x128_0_2816 (k0_off159_eq k) rfl
    (.cons (k0_off157 k) (k0_off157_inb k) ![0, 2688] inb_S1x14336_S1x128_0_2688 (k0_off157_eq k) rfl
    (.cons (k0_off155 k) (k0_off155_inb k) ![0, 2560] inb_S1x14336_S1x128_0_2560 (k0_off155_eq k) rfl
    (.cons (k0_off153 k) (k0_off153_inb k) ![0, 2432] inb_S1x14336_S1x128_0_2432 (k0_off153_eq k) rfl
    (.cons (k0_off151 k) (k0_off151_inb k) ![0, 2304] inb_S1x14336_S1x128_0_2304 (k0_off151_eq k) rfl
    (.cons (k0_off149 k) (k0_off149_inb k) ![0, 2176] inb_S1x14336_S1x128_0_2176 (k0_off149_eq k) rfl
    (.cons (k0_off147 k) (k0_off147_inb k) ![0, 2048] inb_S1x14336_S1x128_0_2048 (k0_off147_eq k) rfl
    (.cons (k0_off145 k) (k0_off145_inb k) ![0, 1920] inb_S1x14336_S1x128_0_1920 (k0_off145_eq k) rfl
    (.cons (k0_off143 k) (k0_off143_inb k) ![0, 1792] inb_S1x14336_S1x128_0_1792 (k0_off143_eq k) rfl
    (.cons (k0_off141 k) (k0_off141_inb k) ![0, 1664] inb_S1x14336_S1x128_0_1664 (k0_off141_eq k) rfl
    (.cons (k0_off139 k) (k0_off139_inb k) ![0, 1536] inb_S1x14336_S1x128_0_1536 (k0_off139_eq k) rfl
    (.cons (k0_off137 k) (k0_off137_inb k) ![0, 1408] inb_S1x14336_S1x128_0_1408 (k0_off137_eq k) rfl
    (.cons (k0_off135 k) (k0_off135_inb k) ![0, 1280] inb_S1x14336_S1x128_0_1280 (k0_off135_eq k) rfl
    (.cons (k0_off133 k) (k0_off133_inb k) ![0, 1152] inb_S1x14336_S1x128_0_1152 (k0_off133_eq k) rfl
    (.cons (k0_off131 k) (k0_off131_inb k) ![0, 1024] inb_S1x14336_S1x128_0_1024 (k0_off131_eq k) rfl
    (.cons (k0_off129 k) (k0_off129_inb k) ![0, 896] inb_S1x14336_S1x128_0_896 (k0_off129_eq k) rfl
    (.cons (k0_off127 k) (k0_off127_inb k) ![0, 768] inb_S1x14336_S1x128_0_768 (k0_off127_eq k) rfl
    (.cons (k0_off125 k) (k0_off125_inb k) ![0, 640] inb_S1x14336_S1x128_0_640 (k0_off125_eq k) rfl
    (.cons (k0_off123 k) (k0_off123_inb k) ![0, 512] inb_S1x14336_S1x128_0_512 (k0_off123_eq k) rfl
    (.cons (k0_off121 k) (k0_off121_inb k) ![0, 384] inb_S1x14336_S1x128_0_384 (k0_off121_eq k) rfl
    (.cons (k0_off119 k) (k0_off119_inb k) ![0, 256] inb_S1x14336_S1x128_0_256 (k0_off119_eq k) rfl
    (.cons (k0_off117 k) (k0_off117_inb k) ![0, 128] inb_S1x14336_S1x128_0_128 (k0_off117_eq k) rfl
    (.cons (k0_off115 k) (k0_off115_inb k) ![0, 0] inb_S1x14336_S1x128_0_0 (k0_off115_eq k) rfl .nil))))))))))))))))))))))))))))))))))))))))))))))))))))))))))))))))))))))))))))))))))))))))))))))))))))))))))))))))

/-- and the scales of the block maxima it has stored. -/
theorem trip2_scales (k : Fin k0_t2_loop.trips) : ∃ L : List (View.Piece (Elt F) S64x128 .f32), MP arg3 arg4 arg7 f3 f4 f7 k 112 L ∧
    (trip_k0_t2 (F := F) 𝒱 c bd i arg1 harg1 arg2 harg2 arg3 harg3 arg4 harg4 arg5 harg5 arg6 harg6 arg7 harg7 arg8 harg8 f3 f4 f7 k).2.1 f5 f6 f8 = [⟨Rect.unit (s := S64x112) (k0_off340 k) S32x112.size (k0_off340_inb k),
      scalesV (arg8.view.readCov L (Rect.unit (s := S64x128) (k0_off339 k) S32x112.size (k0_off339_inb k)).toLoadRect)⟩] := by
  refine ⟨trip_k0_t2.sl.HW_arg8_112 arg3 arg4 arg7 f3 f4 f7 k, (.cons (k0_off337 k) (k0_off337_inb k) ![0, 14208] inb_S1x14336_S1x128_0_14208 (k0_off338 k) (k0_off338_inb k) (k0_off337_eq k) rfl (k0_off338_eq k)
    (.cons (k0_off335 k) (k0_off335_inb k) ![0, 14080] inb_S1x14336_S1x128_0_14080 (k0_off336 k) (k0_off336_inb k) (k0_off335_eq k) rfl (k0_off336_eq k)
    (.cons (k0_off333 k) (k0_off333_inb k) ![0, 13952] inb_S1x14336_S1x128_0_13952 (k0_off334 k) (k0_off334_inb k) (k0_off333_eq k) rfl (k0_off334_eq k)
    (.cons (k0_off331 k) (k0_off331_inb k) ![0, 13824] inb_S1x14336_S1x128_0_13824 (k0_off332 k) (k0_off332_inb k) (k0_off331_eq k) rfl (k0_off332_eq k)
    (.cons (k0_off329 k) (k0_off329_inb k) ![0, 13696] inb_S1x14336_S1x128_0_13696 (k0_off330 k) (k0_off330_inb k) (k0_off329_eq k) rfl (k0_off330_eq k)
    (.cons (k0_off327 k) (k0_off327_inb k) ![0, 13568] inb_S1x14336_S1x128_0_13568 (k0_off328 k) (k0_off328_inb k) (k0_off327_eq k) rfl (k0_off328_eq k)
    (.cons (k0_off325 k) (k0_off325_inb k) ![0, 13440] inb_S1x14336_S1x128_0_13440 (k0_off326 k) (k0_off326_inb k) (k0_off325_eq k) rfl (k0_off326_eq k)
    (.cons (k0_off323 k) (k0_off323_inb k) ![0, 13312] inb_S1x14336_S1x128_0_13312 (k0_off324 k) (k0_off324_inb k) (k0_off323_eq k) rfl (k0_off324_eq k)
    (.cons (k0_off321 k) (k0_off321_inb k) ![0, 13184] inb_S1x14336_S1x128_0_13184 (k0_off322 k) (k0_off322_inb k) (k0_off321_eq k) rfl (k0_off322_eq k)
    (.cons (k0_off319 k) (k0_off319_inb k) ![0, 13056] inb_S1x14336_S1x128_0_13056 (k0_off320 k) (k0_off320_inb k) (k0_off319_eq k) rfl (k0_off320_eq k)
    (.cons (k0_off317 k) (k0_off317_inb k) ![0, 12928] inb_S1x14336_S1x128_0_12928 (k0_off318 k) (k0_off318_inb k) (k0_off317_eq k) rfl (k0_off318_eq k)
    (.cons (k0_off315 k) (k0_off315_inb k) ![0, 12800] inb_S1x14336_S1x128_0_12800 (k0_off316 k) (k0_off316_inb k) (k0_off315_eq k) rfl (k0_off316_eq k)
    (.cons (k0_off313 k) (k0_off313_inb k) ![0, 12672] inb_S1x14336_S1x128_0_12672 (k0_off314 k) (k0_off314_inb k) (k0_off313_eq k) rfl (k0_off314_eq k)
    (.cons (k0_off311 k) (k0_off311_inb k) ![0, 12544] inb_S1x14336_S1x128_0_12544 (k0_off312 k) (k0_off312_inb k) (k0_off311_eq k) rfl (k0_off312_eq k)
    (.cons (k0_off309 k) (k0_off309_inb k) ![0, 12416] inb_S1x14336_S1x128_0_12416 (k0_off310 k) (k0_off310_inb k) (k0_off309_eq k) rfl (k0_off310_eq k)
    (.cons (k0_off307 k) (k0_off307_inb k) ![0, 12288] inb_S1x14336_S1x128_0_12288 (k0_off308 k) (k0_off308_inb k) (k0_off307_eq k) rfl (k0_off308_eq k)
    (.cons (k0_off305 k) (k0_off305_inb k) ![0, 12160] inb_S1x14336_S1x128_0_12160 (k0_off306 k) (k0_off306_inb k) (k0_off305_eq k) rfl (k0_off306_eq k)
    (.cons (k0_off303 k) (k0_off303_inb k) ![0, 12032] inb_S1x14336_S1x128_0_12032 (k0_off304 k) (k0_off304_inb k) (k0_off303_eq k) rfl (k0_off304_eq k)
    (.cons (k0_off301 k) (k0_off301_inb k) ![0, 11904] inb_S1x14336_S1x128_0_11904 (k0_off302 k) (k0_off302_inb k) (k0_off301_eq k) rfl (k0_off302_eq k)
    (.cons (k0_off299 k) (k0_off299_inb k) ![0, 11776] inb_S1x14336_S1x128_0_11776 (k0_off300 k) (k0_off300_inb k) (k0_off299_eq k) rfl (k0_off300_eq k)
    (.cons (k0_off297 k) (k0_off297_inb k) ![0, 11648] inb_S1x14336_S1x128_0_11648 (k0_off298 k) (k0_off298_inb k) (k0_off297_eq k) rfl (k0_off298_eq k)
    (.cons (k0_off295 k) (k0_off295_inb k) ![0, 11520] inb_S1x14336_S1x128_0_11520 (k0_off296 k) (k0_off296_inb k) (k0_off295_eq k) rfl (k0_off296_eq k)
    (.cons (k0_off293 k) (k0_off293_inb k) ![0, 11392] inb_S1x14336_S1x128_0_11392 (k0_off294 k) (k0_off294_inb k) (k0_off293_eq k) rfl (k0_off294_eq k)
    (.cons (k0_off291 k) (k0_off291_inb k) ![0, 11264] inb_S1x14336_S1x128_0_11264 (k0_off292 k) (k0_off292_inb k) (k0_off291_eq k) rfl (k0_off292_eq k)
    (.cons (k0_off289 k) (k0_off289_inb k) ![0, 11136] inb_S1x14336_S1x128_0_11136 (k0_off290 k) (k0_off290_inb k) (k0_off289_eq k) rfl (k0_off290_eq k)
    (.cons (k0_off287 k) (k0_off287_inb k) ![0, 11008] inb_S1x14336_S1x128_0_11008 (k0_off288 k) (k0_off288_inb k) (k0_off287_eq k) rfl (k0_off288_eq k)
    (.cons (k0_off285 k) (k0_off285_inb k) ![0, 10880] inb_S1x14336_S1x128_0_10880 (k0_off286 k) (k0_off286_inb k) (k0_off285_eq k) rfl (k0_off286_eq k)
    (.cons (k0_off283 k) (k0_off283_inb k) ![0, 10752] inb_S1x14336_S1x128_0_10752 (k0_off284 k) (k0_off284_inb k) (k0_off283_eq k) rfl (k0_off284_eq k)
    (.cons (k0_off281 k) (k0_off281_inb k) ![0, 10624] inb_S1x14336_S1x128_0_10624 (k0_off282 k) (k0_off282_inb k) (k0_off281_eq k) rfl (k0_off282_eq k)
    (.cons (k0_off279 k) (k0_off279_inb k) ![0, 10496] inb_S1x14336_S1x128_0_10496 (k0_off280 k) (k0_off280_inb k) (k0_off279_eq k) rfl (k0_off280_eq k)
    (.cons (k0_off277 k) (k0_off277_inb k) ![0, 10368] inb_S1x14336_S1x128_0_10368 (k0_off278 k) (k0_off278_inb k) (k0_off277_eq k) rfl (k0_off278_eq k)
    (.cons (k0_off275 k) (k0_off275_inb k) ![0, 10240] inb_S1x14336_S1x128_0_10240 (k0_off276 k) (k0_off276_inb k) (k0_off275_eq k) rfl (k0_off276_eq k)
    (.cons (k0_off273 k) (k0_off273_inb k) ![0, 10112] inb_S1x14336_S1x128_0_10112 (k0_off274 k) (k0_off274_inb k) (k0_off273_eq k) rfl (k0_off274_eq k)
    (.cons (k0_off271 k) (k0_off271_inb k) ![0, 9984] inb_S1x14336_S1x128_0_9984 (k0_off272 k) (k0_off272_inb k) (k0_off271_eq k) rfl (k0_off272_eq k)
    (.cons (k0_off269 k) (k0_off269_inb k) ![0, 9856] inb_S1x14336_S1x128_0_9856 (k0_off270 k) (k0_off270_inb k) (k0_off269_eq k) rfl (k0_off270_eq k)
    (.cons (k0_off267 k) (k0_off267_inb k) ![0, 9728] inb_S1x14336_S1x128_0_9728 (k0_off268 k) (k0_off268_inb k) (k0_off267_eq k) rfl (k0_off268_eq k)
    (.cons (k0_off265 k) (k0_off265_inb k) ![0, 9600] inb_S1x14336_S1x128_0_9600 (k0_off266 k) (k0_off266_inb k) (k0_off265_eq k) rfl (k0_off266_eq k)
    (.cons (k0_off263 k) (k0_off263_inb k) ![0, 9472] inb_S1x14336_S1x128_0_9472 (k0_off264 k) (k0_off264_inb k) (k0_off263_eq k) rfl (k0_off264_eq k)
    (.cons (k0_off261 k) (k0_off261_inb k) ![0, 9344] inb_S1x14336_S1x128_0_9344 (k0_off262 k) (k0_off262_inb k) (k0_off261_eq k) rfl (k0_off262_eq k)
    (.cons (k0_off259 k) (k0_off259_inb k) ![0, 9216] inb_S1x14336_S1x128_0_9216 (k0_off260 k) (k0_off260_inb k) (k0_off259_eq k) rfl (k0_off260_eq k)
    (.cons (k0_off257 k) (k0_off257_inb k) ![0, 9088] inb_S1x14336_S1x128_0_9088 (k0_off258 k) (k0_off258_inb k) (k0_off257_eq k) rfl (k0_off258_eq k)
    (.cons (k0_off255 k) (k0_off255_inb k) ![0, 8960] inb_S1x14336_S1x128_0_8960 (k0_off256 k) (k0_off256_inb k) (k0_off255_eq k) rfl (k0_off256_eq k)
    (.cons (k0_off253 k) (k0_off253_inb k) ![0, 8832] inb_S1x14336_S1x128_0_8832 (k0_off254 k) (k0_off254_inb k) (k0_off253_eq k) rfl (k0_off254_eq k)
    (.cons (k0_off251 k) (k0_off251_inb k) ![0, 8704] inb_S1x14336_S1x128_0_8704 (k0_off252 k) (k0_off252_inb k) (k0_off251_eq k) rfl (k0_off252_eq k)
    (.cons (k0_off249 k) (k0_off249_inb k) ![0, 8576] inb_S1x14336_S1x128_0_8576 (k0_off250 k) (k0_off250_inb k) (k0_off249_eq k) rfl (k0_off250_eq k)
    (.cons (k0_off247 k) (k0_off247_inb k) ![0, 8448] inb_S1x14336_S1x128_0_8448 (k0_off248 k) (k0_off248_inb k) (k0_off247_eq k) rfl (k0_off248_eq k)
    (.cons (k0_off245 k) (k0_off245_inb k) ![0, 8320] inb_S1x14336_S1x128_0_8320 (k0_off246 k) (k0_off246_inb k) (k0_off245_eq k) rfl (k0_off246_eq k)
    (.cons (k0_off243 k) (k0_off243_inb k) ![0, 8192] inb_S1x14336_S1x128_0_8192 (k0_off244 k) (k0_off244_inb k) (k0_off243_eq k) rfl (k0_off244_eq k)
    (.cons (k0_off241 k) (k0_off241_inb k) ![0, 8064] inb_S1x14336_S1x128_0_8064 (k0_off242 k) (k0_off242_inb k) (k0_off241_eq k) rfl (k0_off242_eq k)
    (.cons (k0_off239 k) (k0_off239_inb k) ![0, 7936] inb_S1x14336_S1x128_0_7936 (k0_off240 k) (k0_off240_inb k) (k0_off239_eq k) rfl (k0_off240_eq k)
    (.cons (k0_off237 k) (k0_off237_inb k) ![0, 7808] inb_S1x14336_S1x128_0_7808 (k0_off238 k) (k0_off238_inb k) (k0_off237_eq k) rfl (k0_off238_eq k)
    (.cons (k0_off235 k) (k0_off235_inb k) ![0, 7680] inb_S1x14336_S1x128_0_7680 (k0_off236 k) (k0_off236_inb k) (k0_off235_eq k) rfl (k0_off236_eq k)
    (.cons (k0_off233 k) (k0_off233_inb k) ![0, 7552] inb_S1x14336_S1x128_0_7552 (k0_off234 k) (k0_off234_inb k) (k0_off233_eq k) rfl (k0_off234_eq k)
    (.cons (k0_off231 k) (k0_off231_inb k) ![0, 7424] inb_S1x14336_S1x128_0_7424 (k0_off232 k) (k0_off232_inb k) (k0_off231_eq k) rfl (k0_off232_eq k)
    (.cons (k0_off229 k) (k0_off229_inb k) ![0, 7296] inb_S1x14336_S1x128_0_7296 (k0_off230 k) (k0_off230_inb k) (k0_off229_eq k) rfl (k0_off230_eq k)
    (.cons (k0_off227 k) (k0_off227_inb k) ![0, 7168] inb_S1x14336_S1x128_0_7168 (k0_off228 k) (k0_off228_inb k) (k0_off227_eq k) rfl (k0_off228_eq k)
    (.cons (k0_off225 k) (k0_off225_inb k) ![0, 7040] inb_S1x14336_S1x128_0_7040 (k0_off226 k) (k0_off226_inb k) (k0_off225_eq k) rfl (k0_off226_eq k)
    (.cons (k0_off223 k) (k0_off223_inb k) ![0, 6912] inb_S1x14336_S1x128_0_6912 (k0_off224 k) (k0_off224_inb k) (k0_off223_eq k) rfl (k0_off224_eq k)
    (.cons (k0_off221 k) (k0_off221_inb k) ![0, 6784] inb_S1x14336_S1x128_0_6784 (k0_off222 k) (k0_off222_inb k) (k0_off221_eq k) rfl (k0_off222_eq k)
    (.cons (k0_off219 k) (k0_off219_inb k) ![0, 6656] inb_S1x14336_S1x128_0_6656 (k0_off220 k) (k0_off220_inb k) (k0_off219_eq k) rfl (k0_off220_eq k)
    (.cons (k0_off217 k) (k0_off217_inb k) ![0, 6528] inb_S1x14336_S1x128_0_6528 (k0_off218 k) (k0_off218_inb k) (k0_off217_eq k) rfl (k0_off218_eq k)
    (.cons (k0_off215 k) (k0_off215_inb k) ![0, 6400] inb_S1x14336_S1x128_0_6400 (k0_off216 k) (k0_off216_inb k) (k0_off215_eq k) rfl (k0_off216_eq k)
    (.cons (k0_off213 k) (k0_off213_inb k) ![0, 6272] inb_S1x14336_S1x128_0_6272 (k0_off214 k) (k0_off214_inb k) (k0_off213_eq k) rfl (k0_off214_eq k)
    (.cons (k0_off211 k) (k0_off211_inb k) ![0, 6144] inb_S1x14336_S1x128_0_6144 (k0_off212 k) (k0_off212_inb k) (k0_off211_eq k) rfl (k0_off212_eq k)
    (.cons (k0_off209 k) (k0_off209_inb k) ![0, 6016] inb_S1x14336_S1x128_0_6016 (k0_off210 k) (k0_off210_inb k) (k0_off209_eq k) rfl (k0_off210_eq k)
    (.cons (k0_off207 k) (k0_off207_inb k) ![0, 5888] inb_S1x14336_S1x128_0_5888 (k0_off208 k) (k0_off208_inb k) (k0_off207_eq k) rfl (k0_off208_eq k)
    (.cons (k0_off205 k) (k0_off205_inb k) ![0, 5760] inb_S1x14336_S1x128_0_5760 (k0_off206 k) (k0_off206_inb k) (k0_off205_eq k) rfl (k0_off206_eq k)
    (.cons (k0_off203 k) (k0_off203_inb k) ![0, 5632] inb_S1x14336_S1x128_0_5632 (k0_off204 k) (k0_off204_inb k) (k0_off203_eq k) rfl (k0_off204_eq k)
    (.cons (k0_off201 k) (k0_off201_inb k) ![0, 5504] inb_S1x14336_S1x128_0_5504 (k0_off202 k) (k0_off202_inb k) (k0_off201_eq k) rfl (k0_off202_eq k)
    (.cons (k0_off199 k) (k0_off199_inb k) ![0, 5376] inb_S1x14336_S1x128_0_5376 (k0_off200 k) (k0_off200_inb k) (k0_off199_eq k) rfl (k0_off200_eq k)
    (.cons (k0_off197 k) (k0_off197_inb k) ![0, 5248] inb_S1x14336_S1x128_0_5248 (k0_off198 k) (k0_off198_inb k) (k0_off197_eq k) rfl (k0_off198_eq k)
    (.cons (k0_off195 k) (k0_off195_inb k) ![0, 5120] inb_S1x14336_S1x128_0_5120 (k0_off196 k) (k0_off196_inb k) (k0_off195_eq k) rfl (k0_off196_eq k)
    (.cons (k0_off193 k) (k0_off193_inb k) ![0, 4992] inb_S1x14336_S1x128_0_4992 (k0_off194 k) (k0_off194_inb k) (k0_off193_eq k) rfl (k0_off194_eq k)
    (.cons (k0_off191 k) (k0_off191_inb k) ![0, 4864] inb_S1x14336_S1x128_0_4864 (k0_off192 k) (k0_off192_inb k) (k0_off191_eq k) rfl (k0_off192_eq k)
    (.cons (k0_off189 k) (k0_off189_inb k) ![0, 4736] inb_S1x14336_S1x128_0_4736 (k0_off190 k) (k0_off190_inb k) (k0_off189_eq k) rfl (k0_off190_eq k)
    (.cons (k0_off187 k) (k0_off187_inb k) ![0, 4608] inb_S1x14336_S1x128_0_4608 (k0_off188 k) (k0_off188_inb k) (k0_off187_eq k) rfl (k0_off188_eq k)
    (.cons (k0_off185 k) (k0_off185_inb k) ![0, 4480] inb_S1x14336_S1x128_0_4480 (k0_off186 k) (k0_off186_inb k) (k0_off185_eq k) rfl (k0_off186_eq k)
    (.cons (k0_off183 k) (k0_off183_inb k) ![0, 4352] inb_S1x14336_S1x128_0_4352 (k0_off184 k) (k0_off184_inb k) (k0_off183_eq k) rfl (k0_off184_eq k)
    (.cons (k0_off181 k) (k0_off181_inb k) ![0, 4224] inb_S1x14336_S1x128_0_4224 (k0_off182 k) (k0_off182_inb k) (k0_off181_eq k) rfl (k0_off182_eq k)
    (.cons (k0_off179 k) (k0_off179_inb k) ![0, 4096] inb_S1x14336_S1x128_0_4096 (k0_off180 k) (k0_off180_inb k) (k0_off179_eq k) rfl (k0_off180_eq k)
    (.cons (k0_off177 k) (k0_off177_inb k) ![0, 3968] inb_S1x14336_S1x128_0_3968 (k0_off178 k) (k0_off178_inb k) (k0_off177_eq k) rfl (k0_off178_eq k)
    (.cons (k0_off175 k) (k0_off175_inb k) ![0, 3840] inb_S1x14336_S1x128_0_3840 (k0_off176 k) (k0_off176_inb k) (k0_off175_eq k) rfl (k0_off176_eq k)
    (.cons (k0_off173 k) (k0_off173_inb k) ![0, 3712] inb_S1x14336_S1x128_0_3712 (k0_off174 k) (k0_off174_inb k) (k0_off173_eq k) rfl (k0_off174_eq k)
    (.cons (k0_off171 k) (k0_off171_inb k) ![0, 3584] inb_S1x14336_S1x128_0_3584 (k0_off172 k) (k0_off172_inb k) (k0_off171_eq k) rfl (k0_off172_eq k)
    (.cons (k0_off169 k) (k0_off169_inb k) ![0, 3456] inb_S1x14336_S1x128_0_3456 (k0_off170 k) (k0_off170_inb k) (k0_off169_eq k) rfl (k0_off170_eq k)
    (.cons (k0_off167 k) (k0_off167_inb k) ![0, 3328] inb_S1x14336_S1x128_0_3328 (k0_off168 k) (k0_off168_inb k) (k0_off167_eq k) rfl (k0_off168_eq k)
    (.cons (k0_off165 k) (k0_off165_inb k) ![0, 3200] inb_S1x14336_S1x128_0_3200 (k0_off166 k) (k0_off166_inb k) (k0_off165_eq k) rfl (k0_off166_eq k)
    (.cons (k0_off163 k) (k0_off163_inb k) ![0, 3072] inb_S1x14336_S1x128_0_3072 (k0_off164 k) (k0_off164_inb k) (k0_off163_eq k) rfl (k0_off164_eq k)
    (.cons (k0_off161 k) (k0_off161_inb k) ![0, 2944] inb_S1x14336_S1x128_0_2944 (k0_off162 k) (k0_off162_inb k) (k0_off161_eq k) rfl (k0_off162_eq k)
    (.cons (k0_off159 k) (k0_off159_inb k) ![0, 2816] inb_S1x14336_S1x128_0_2816 (k0_off160 k) (k0_off160_inb k) (k0_off159_eq k) rfl (k0_off160_eq k)
    (.cons (k0_off157 k) (k0_off157_inb k) ![0, 2688] inb_S1x14336_S1x128_0_2688 (k0_off158 k) (k0_off158_inb k) (k0_off157_eq k) rfl (k0_off158_eq k)
    (.cons (k0_off155 k) (k0_off155_inb k) ![0, 2560] inb_S1x14336_S1x128_0_2560 (k0_off156 k) (k0_off156_inb k) (k0_off155_eq k) rfl (k0_off156_eq k)
    (.cons (k0_off153 k) (k0_off153_inb k) ![0, 2432] inb_S1x14336_S1x128_0_2432 (k0_off154 k) (k0_off154_inb k) (k0_off153_eq k) rfl (k0_off154_eq k)
    (.cons (k0_off151 k) (k0_off151_inb k) ![0, 2304] inb_S1x14336_S1x128_0_2304 (k0_off152 k) (k0_off152_inb k) (k0_off151_eq k) rfl (k0_off152_eq k)
    (.cons (k0_off149 k) (k0_off149_inb k) ![0, 2176] inb_S1x14336_S1x128_0_2176 (k0_off150 k) (k0_off150_inb k) (k0_off149_eq k) rfl (k0_off150_eq k)
    (.cons (k0_off147 k) (k0_off147_inb k) ![0, 2048] inb_S1x14336_S1x128_0_2048 (k0_off148 k) (k0_off148_inb k) (k0_off147_eq k) rfl (k0_off148_eq k)
    (.cons (k0_off145 k) (k0_off145_inb k) ![0, 1920] inb_S1x14336_S1x128_0_1920 (k0_off146 k) (k0_off146_inb k) (k0_off145_eq k) rfl (k0_off146_eq k)
    (.cons (k0_off143 k) (k0_off143_inb k) ![0, 1792] inb_S1x14336_S1x128_0_1792 (k0_off144 k) (k0_off144_inb k) (k0_off143_eq k) rfl (k0_off144_eq k)
    (.cons (k0_off141 k) (k0_off141_inb k) ![0, 1664] inb_S1x14336_S1x128_0_1664 (k0_off142 k) (k0_off142_inb k) (k0_off141_eq k) rfl (k0_off142_eq k)
    (.cons (k0_off139 k) (k0_off139_inb k) ![0, 1536] inb_S1x14336_S1x128_0_1536 (k0_off140 k) (k0_off140_inb k) (k0_off139_eq k) rfl (k0_off140_eq k)
    (.cons (k0_off137 k) (k0_off137_inb k) ![0, 1408] inb_S1x14336_S1x128_0_1408 (k0_off138 k) (k0_off138_inb k) (k0_off137_eq k) rfl (k0_off138_eq k)
    (.cons (k0_off135 k) (k0_off135_inb k) ![0, 1280] inb_S1x14336_S1x128_0_1280 (k0_off136 k) (k0_off136_inb k) (k0_off135_eq k) rfl (k0_off136_eq k)
    (.cons (k0_off133 k) (k0_off133_inb k) ![0, 1152] inb_S1x14336_S1x128_0_1152 (k0_off134 k) (k0_off134_inb k) (k0_off133_eq k) rfl (k0_off134_eq k)
    (.cons (k0_off131 k) (k0_off131_inb k) ![0, 1024] inb_S1x14336_S1x128_0_1024 (k0_off132 k) (k0_off132_inb k) (k0_off131_eq k) rfl (k0_off132_eq k)
    (.cons (k0_off129 k) (k0_off129_inb k) ![0, 896] inb_S1x14336_S1x128_0_896 (k0_off130 k) (k0_off130_inb k) (k0_off129_eq k) rfl (k0_off130_eq k)
    (.cons (k0_off127 k) (k0_off127_inb k) ![0, 768] inb_S1x14336_S1x128_0_768 (k0_off128 k) (k0_off128_inb k) (k0_off127_eq k) rfl (k0_off128_eq k)
    (.cons (k0_off125 k) (k0_off125_inb k) ![0, 640] inb_S1x14336_S1x128_0_640 (k0_off126 k) (k0_off126_inb k) (k0_off125_eq k) rfl (k0_off126_eq k)
    (.cons (k0_off123 k) (k0_off123_inb k) ![0, 512] inb_S1x14336_S1x128_0_512 (k0_off124 k) (k0_off124_inb k) (k0_off123_eq k) rfl (k0_off124_eq k)
    (.cons (k0_off121 k) (k0_off121_inb k) ![0, 384] inb_S1x14336_S1x128_0_384 (k0_off122 k) (k0_off122_inb k) (k0_off121_eq k) rfl (k0_off122_eq k)
    (.cons (k0_off119 k) (k0_off119_inb k) ![0, 256] inb_S1x14336_S1x128_0_256 (k0_off120 k) (k0_off120_inb k) (k0_off119_eq k) rfl (k0_off120_eq k)
    (.cons (k0_off117 k) (k0_off117_inb k) ![0, 128] inb_S1x14336_S1x128_0_128 (k0_off118 k) (k0_off118_inb k) (k0_off117_eq k) rfl (k0_off118_eq k)
    (.cons (k0_off115 k) (k0_off115_inb k) ![0, 0] inb_S1x14336_S1x128_0_0 (k0_off116 k) (k0_off116_inb k) (k0_off115_eq k) rfl (k0_off116_eq k) .nil)))))))))))))))))))))))))))))))))))))))))))))))))))))))))))))))))))))))))))))))))))))))))))))))))))))))))))))))), ?_⟩
  unfold trip_k0_t2
  rfl
end Trips

end Cert.KernelIdeal.Hand

end
-- ==== Proof.Maths.lean ====
/-
  The scalar arithmetic of the quantiser over the extended reals: the exponent search finds the binade of its argument, so the power
  of two it makes is the one the floor of the logarithm gives, and a row's normalised magnitudes stay below 120.
-/
module

public import Idealize.ShloMosaic.PureOps
public import Idealize.ShloMosaic.PureOps.IdealRules
public import Idealize.ShloMosaic.Lib.Pointwise.Tactic
public import Idealize.ShloMosaic.Lib.StableHlo

@[expose] public section

set_option maxHeartbeats 1000000

noncomputable section

namespace Cert.Quant

open Idealize.ShloMosaic

/-- The word of the exponent field `e`. -/
def word (e : ℕ) : BitVec 32 := BitVec.ofNat 32 (e * 8388608)

/-- The power of two of the exponent field `e`. -/
def pw (e : ℕ) : ℝ := (2 : ℝ) ^ ((e : ℤ) - 127)

theorem pw_pos (e : ℕ) : 0 < pw e := by unfold pw; positivity

theorem pw_mono {a b : ℕ} (h : a ≤ b) : pw a ≤ pw b := by
  unfold pw
  exact zpow_le_zpow_right₀ (by norm_num) (by omega)

theorem word_add (e d : ℕ) : word e + word d = word (e + d) := by
  unfold word
  rw [← BitVec.ofNat_add, ← Nat.add_mul]

/-- A normal exponent field with no fraction is a power of two. -/
theorem ofBits_word (e : ℕ) (h1 : 1 ≤ e) (h2 : e ≤ 254) : Ideal.ofBits .f32 (word e) = ((pw e : ℝ) : EReal) := by
  have h31 : e * 2 ^ 23 < 2 ^ (8 + 23) := by
    calc e * 2 ^ 23 < 2 ^ 8 * 2 ^ 23 := Nat.mul_lt_mul_of_pos_right (by norm_num; omega) (by norm_num)
      _ = 2 ^ (8 + 23) := by norm_num
  have hN : (word e).toNat = e * 2 ^ 23 := by
    rw [word, BitVec.toNat_ofNat, show (8388608 : ℕ) = 2 ^ 23 by norm_num]
    exact Nat.mod_eq_of_lt (lt_of_lt_of_le h31 (by norm_num))
  generalize hb : word e = b at hN
  have a1 : (b.extractLsb' (8 + 23) 1) = 0#1 := by
    apply BitVec.eq_of_toNat_eq
    rw [BitVec.extractLsb'_toNat, hN, Nat.shiftRight_eq_div_pow, Nat.div_eq_of_lt h31, Nat.zero_mod]
    norm_num
  have a2 : (b.extractLsb' 23 8).toNat = e := by
    rw [BitVec.extractLsb'_toNat, hN, Nat.shiftRight_eq_div_pow, Nat.mul_div_cancel _ (by norm_num)]
    exact Nat.mod_eq_of_lt (by norm_num; omega)
  have a3 : (b.extractLsb' 0 23).toNat = 0 := by
    rw [BitVec.extractLsb'_toNat, hN, Nat.shiftRight_eq_div_pow, pow_zero, Nat.div_one, Nat.mul_mod_left]
  show Ideal.ieee 8 23 b = _
  unfold Ideal.ieee
  simp only [a1, a2, a3]
  rw [if_neg (by omega), if_neg (by omega)]
  refine congrArg Real.toEReal ?_
  simp only [pw]
  have : (2:ℝ) ^ ((e:ℤ) - 127) = 2 ^ 23 * (2:ℝ) ^ ((e:ℤ) - 127 - 23) := by
    rw [show ((e:ℤ) - 127) = 23 + ((e:ℤ) - 127 - 23) by ring, zpow_add₀ (by norm_num)]
    norm_num
  rw [this]
  norm_num

/-- One step of the search. -/
def step (m : EReal) (w f : BitVec 32) : BitVec 32 := if Ideal.ofBits .f32 (f + w) ≤ m then f + w else f

/-- The search. -/
def field (m : EReal) : BitVec 32 :=
  step m 8388608#32 (step m 16777216#32 (step m 33554432#32 (step m 67108864#32 (step m 134217728#32
    (step m 268435456#32 (step m 528482304#32 (step m 1065353216#32 8388608#32)))))))

/-- `f` is an exponent field within `S` below which `m` lies. -/
def Inv (m : ℝ) (S : ℕ) (f : BitVec 32) : Prop := ∃ e : ℕ, f = word e ∧ 1 ≤ e ∧ e + S ≤ 255 ∧ pw e ≤ m ∧ m < pw (e + S)

theorem inv_step {m : ℝ} {S : ℕ} {f : BitVec 32} (d S' : ℕ) (h : Inv m S f) (hd : d + S' = S) (hS : d ≤ S') (hp : 0 < S') :
    Inv m S' (step (m : EReal) (word d) f) := by
  obtain ⟨e, rfl, h1, h2, h3, h4⟩ := h
  unfold step
  rw [word_add, ofBits_word (e + d) (by omega) (by omega)]
  by_cases hc : pw (e + d) ≤ m
  · rw [if_pos (by exact_mod_cast hc)]
    exact ⟨e + d, rfl, by omega, by omega, hc, by rw [show e + d + S' = e + S by omega]; exact h4⟩
  · rw [if_neg (by exact_mod_cast hc)]
    exact ⟨e, rfl, h1, by omega, h3, lt_of_lt_of_le (not_le.1 hc) (pw_mono (by omega))⟩

/-- The search finds the exponent of `m`. -/
theorem field_spec (m : ℝ) (h1 : pw 1 ≤ m) (h2 : m < pw 253) : ∃ e : ℕ, field m = word e ∧ 1 ≤ e ∧ e ≤ 252 ∧ pw e ≤ m ∧ m < pw (e + 1) := by
  have w1 : (8388608#32 : BitVec 32) = word 1 := by unfold word; norm_num
  have w2 : (16777216#32 : BitVec 32) = word 2 := by unfold word; norm_num
  have w4 : (33554432#32 : BitVec 32) = word 4 := by unfold word; norm_num
  have w8 : (67108864#32 : BitVec 32) = word 8 := by unfold word; norm_num
  have w16 : (134217728#32 : BitVec 32) = word 16 := by unfold word; norm_num
  have w32 : (268435456#32 : BitVec 32) = word 32 := by unfold word; norm_num
  have w63 : (528482304#32 : BitVec 32) = word 63 := by unfold word; norm_num
  have w127 : (1065353216#32 : BitVec 32) = word 127 := by unfold word; norm_num
  have i0 : Inv m 254 (word 1) := ⟨1, rfl, le_refl _, by omega, h1, lt_of_lt_of_le h2 (pw_mono (by omega))⟩
  have i1 := inv_step 127 127 i0 (by omega) (by omega) (by omega)
  have i2 := inv_step 63 64 i1 (by omega) (by omega) (by omega)
  have i3 := inv_step 32 32 i2 (by omega) (by omega) (by omega)
  have i4 := inv_step 16 16 i3 (by omega) (by omega) (by omega)
  have i5 := inv_step 8 8 i4 (by omega) (by omega) (by omega)
  have i6 := inv_step 4 4 i5 (by omega) (by omega) (by omega)
  have i7 := inv_step 2 2 i6 (by omega) (by omega) (by omega)
  have i8 := inv_step 1 1 i7 (by omega) (by omega) (by omega)
  obtain ⟨e, hf, a, b, c, d⟩ := i8
  refine ⟨e, ?_, a, ?_, c, d⟩
  · unfold field
    rw [w1, w2, w4, w8, w16, w32, w63, w127]
    exact hf
  by_contra hcon
  exact absurd (lt_of_le_of_lt (pw_mono (show 253 ≤ e by omega)) (lt_of_le_of_lt c h2)) (lt_irrefl _)

theorem ofBits_tiny : Ideal.ofBits .f32 0x00800000#32 = ((pw 1 : ℝ) : EReal) := ofBits_word 1 (by omega) (by omega)
theorem ofBits_half : Ideal.ofBits .f32 0x3F000000#32 = ((pw 126 : ℝ) : EReal) := ofBits_word 126 (by omega) (by omega)
theorem ofBits_one : Ideal.ofBits .f32 0x3F800000#32 = ((1 : ℝ) : EReal) := by
  have := ofBits_word 127 (by omega) (by omega)
  simpa [pw] using this
theorem ofBits_zero : Ideal.ofBits .f32 0x00000000#32 = ((0 : ℝ) : EReal) := by
  simp [Ideal.ofBits, Ideal.ieee, -EReal.coe_mul]
/-- The reciprocal of 448, rounded. -/
def cinv : ℝ := 9586981 / 4294967296
theorem ofBits_cinv : Ideal.ofBits .f32 0x3B124925#32 = ((cinv : ℝ) : EReal) := by
  simp [Ideal.ofBits, Ideal.ieee, -EReal.coe_mul, cinv]
  norm_num
theorem ofBits_n : Ideal.ofBits .f32 0x46600000#32 = ((14336 : ℝ) : EReal) := by
  simp [Ideal.ofBits, Ideal.ieee, -EReal.coe_mul]
  norm_num
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num
theorem ofBits_bot : Ideal.ofBits .f32 0xFF800000#32 = ⊥ := by
  unfold Ideal.ofBits Ideal.ieee
  dsimp only
  rw [if_pos (by decide), if_pos (by decide), if_pos (by decide)]
theorem ofBits_gmax : Ideal.ofBits .bf16 0x7F00#16 = ((170141183460469231731687303715884105728 : ℝ) : EReal) := by
  simp [Ideal.ofBits, Ideal.ieee, -EReal.coe_mul]
  norm_num
theorem ofBits_gmin : Ideal.ofBits .bf16 0xFF00#16 = ((-170141183460469231731687303715884105728 : ℝ) : EReal) := by
  simp [Ideal.ofBits, Ideal.ieee, -EReal.coe_mul]
  norm_num

/-- The kernel's scaled block maximum. -/
def mK (a : EReal) : EReal := if a * Ideal.ofBits .f32 0x3B124925#32 < Ideal.ofBits .f32 0x00800000#32 then Ideal.ofBits .f32 0x3F000000#32 else a * Ideal.ofBits .f32 0x3B124925#32
/-- The kernel's scale, -/
def scaleK (a : EReal) : EReal := Ideal.ofBits .f32 (field (mK a) + 8388608#32)
/-- and its inverse. -/
def invK (a : EReal) : EReal := Ideal.ofBits .f32 (2122317824#32 - field (mK a))
/-- The reference's exponent. -/
def eR (a : EReal) : EReal := if a * Ideal.ofBits .f32 0x3B124925#32 < Ideal.ofBits .f32 0x00800000#32 then Ideal.ofBits .f32 0x00000000#32
  else Ideal.liftRound Int.floor (Ideal.div (Ideal.log (a * Ideal.ofBits .f32 0x3B124925#32)) ((Real.log 2 : ℝ) : EReal)) + Ideal.ofBits .f32 0x3F800000#32

theorem pw_exp2 (e : ℕ) (z : ℤ) (h : (e : ℤ) - 127 = z) : Ideal.exp2 (((z : ℝ) : EReal)) = ((pw e : ℝ) : EReal) := by
  show (((Real.rpow 2 (z : ℝ)) : ℝ) : EReal) = _
  refine congrArg Real.toEReal ?_
  rw [pw, h]
  exact Real.rpow_intCast 2 z

theorem word_sub (e : ℕ) (h : e ≤ 253) : 2122317824#32 - word e = word (253 - e) := by
  have h2 : word (253 - e) + word e = 2122317824#32 := by
    rw [word_add, show 253 - e + e = 253 by omega]; decide
  rw [← h2]
  exact BitVec.add_sub_cancel _ _

/-- Below 2^126 the kernel's scale and its inverse are the reference's powers of two. -/
theorem scale_eq (a : ℝ) (h2 : a * cinv < pw 253) :
    scaleK (a : EReal) = Ideal.exp2 (eR (a : EReal)) ∧ invK (a : EReal) = Ideal.exp2 (Ideal.ofBits .f32 0x00000000#32 - eR (a : EReal)) := by
  have key : ∃ e : ℕ, field (mK (a : EReal)) = word e ∧ 1 ≤ e ∧ e ≤ 252 ∧ eR (a : EReal) = ((((e : ℤ) - 126 : ℤ) : ℝ) : EReal) := by
    unfold mK eR
    rw [ofBits_cinv, ofBits_tiny, ofBits_half, ofBits_zero, ofBits_one, ← EReal.coe_mul]
    by_cases hc : a * cinv < pw 1
    · rw [if_pos (by exact_mod_cast hc), if_pos (by exact_mod_cast hc)]
      obtain ⟨e, hf, p1, p2, p3, p4⟩ := field_spec (pw 126) (pw_mono (by omega)) (by unfold pw; norm_num)
      have he : e = 126 := by
        have q1 : e ≤ 126 := by
          by_contra hcon
          have := pw_mono (show 127 ≤ e by omega)
          have h3 : pw 126 < pw 127 := by unfold pw; norm_num
          linarith
        have q2 : 126 ≤ e := by
          by_contra hcon
          have := pw_mono (show e + 1 ≤ 126 by omega)
          linarith
        omega
      subst he
      exact ⟨126, hf, p1, p2, by norm_num⟩
    · rw [if_neg (by exact_mod_cast hc), if_neg (by exact_mod_cast hc)]
      obtain ⟨e, hf, p1, p2, p3, p4⟩ := field_spec (a * cinv) (not_lt.1 hc) h2
      refine ⟨e, hf, p1, p2, ?_⟩
      have hpos : 0 < a * cinv := lt_of_lt_of_le (pw_pos e) p3
      have hl2 : 0 < Real.log 2 := Real.log_pos (by norm_num)
      have hlog : Ideal.log ((a * cinv : ℝ) : EReal) = ((Real.log (a * cinv) : ℝ) : EReal) := by
        show (if a * cinv ≤ 0 then (⊥ : EReal) else _) = _
        rw [if_neg (not_le.2 hpos)]
      rw [hlog]
      have hdiv : Ideal.div ((Real.log (a * cinv) : ℝ) : EReal) ((Real.log 2 : ℝ) : EReal) = ((Real.log (a * cinv) / Real.log 2 : ℝ) : EReal) := by
        unfold Ideal.div
        rw [if_neg (by exact_mod_cast hl2.ne'), div_eq_mul_inv, EReal.coe_mul, EReal.coe_inv]
      rw [hdiv]
      have hfl : ⌊Real.log (a * cinv) / Real.log 2⌋ = (e : ℤ) - 127 := by
        rw [Int.floor_eq_iff]
        constructor
        · rw [le_div_iff₀ hl2]
          have := Real.log_le_log (pw_pos e) p3
          rwa [pw, Real.log_zpow] at this
        · rw [div_lt_iff₀ hl2]
          have := Real.log_lt_log hpos p4
          rw [pw, Real.log_zpow] at this
          push_cast at this ⊢
          linarith
      show (((⌊Real.log (a * cinv) / Real.log 2⌋ : ℝ)) : EReal) + ((1 : ℝ) : EReal) = _
      rw [hfl, ← EReal.coe_add]
      refine congrArg Real.toEReal ?_
      push_cast
      ring
  obtain ⟨e, hf, p1, p2, he⟩ := key
  unfold scaleK invK
  rw [hf, he]
  constructor
  · rw [show (8388608#32 : BitVec 32) = word 1 by decide, word_add, ofBits_word _ (by omega) (by omega)]
    exact (pw_exp2 (e + 1) _ (by push_cast; ring)).symm
  · rw [word_sub e (by omega), ofBits_word _ (by omega) (by omega), ofBits_zero, ← EReal.coe_sub]
    rw [show ((0 : ℝ) - (((e : ℤ) - 126 : ℤ) : ℝ)) = ((126 - (e : ℤ) : ℤ) : ℝ) by push_cast; ring]
    exact (pw_exp2 (253 - e) _ (by omega)).symm

theorem sq_nonneg (x : EReal) : 0 ≤ x * x := by
  rcases le_total 0 x with h | h
  · exact mul_nonneg h h
  · have h' : 0 ≤ -x := EReal.neg_nonneg.2 h
    have := mul_nonneg h' h'
    rwa [neg_mul_neg] at this

/-- A value times the reciprocal root of its row's mean square stays below 120. -/
theorem row_bound {ι : Type} [Fintype ι] (H : ι → EReal) (i : ι) :
    ∃ t : ℝ, |t| ≤ 120 ∧ H i * Ideal.rsqrt (Ideal.div (∑ j, H j * H j) (Ideal.ofBits .f32 0x46600000#32) + Ideal.ofBits .f32 0x358637BD#32) = (t : EReal) := by
  obtain ⟨eps, he, hbe⟩ := ofBits_eps
  rw [ofBits_n, hbe]
  have hle : H i * H i ≤ ∑ j, H j * H j :=
    Finset.single_le_sum (f := fun j => H j * H j) (fun j _ => sq_nonneg (H j)) (Finset.mem_univ i)
  have hs0 : 0 ≤ ∑ j, H j * H j := le_trans (sq_nonneg _) hle
  generalize (∑ j, H j * H j) = s at hle hs0
  generalize H i = x at hle
  have hdiv : ∀ u : EReal, Ideal.div u ((14336 : ℝ) : EReal) = u * ((14336 : ℝ) : EReal)⁻¹ := fun u => by
    unfold Ideal.div
    rw [if_neg (by exact_mod_cast (by norm_num : (14336 : ℝ) ≠ 0))]
  rw [hdiv]
  induction s with
  | bot => exact absurd hs0 (by simp)
  | top =>
    refine ⟨0, by norm_num, ?_⟩
    have h1 : (⊤ : EReal) * ((14336 : ℝ) : EReal)⁻¹ = ⊤ := by
      rw [← EReal.coe_inv]
      exact EReal.top_mul_coe_of_pos (by norm_num)
    rw [h1, EReal.top_add_coe]
    show x * (0 : EReal) = _
    simp
  | coe S =>
    have hS : 0 ≤ S := by exact_mod_cast hs0
    have h1 : ((S : ℝ) : EReal) * ((14336 : ℝ) : EReal)⁻¹ + (eps : EReal) = ((S / 14336 + eps : ℝ) : EReal) := by
      rw [← EReal.coe_inv, ← EReal.coe_mul, ← EReal.coe_add, div_eq_mul_inv]
    have hp : 0 < S / 14336 + eps := by positivity
    have h2 : Ideal.rsqrt ((S / 14336 + eps : ℝ) : EReal) = (((Real.sqrt (S / 14336 + eps))⁻¹ : ℝ) : EReal) := by
      show (if S / 14336 + eps < 0 then (⊥ : EReal) else if S / 14336 + eps = 0 then ⊤ else _) = _
      rw [if_neg (not_lt.2 hp.le), if_neg hp.ne']
    rw [h1, h2]
    induction x with
    | bot => simp at hle
    | top => simp at hle
    | coe r =>
      have hr : r * r ≤ S := by exact_mod_cast hle
      refine ⟨r * (Real.sqrt (S / 14336 + eps))⁻¹, ?_, (EReal.coe_mul _ _).symm⟩
      have hq : 0 < Real.sqrt (S / 14336 + eps) := Real.sqrt_pos.2 hp
      rw [abs_mul, abs_of_pos (inv_pos.2 hq), ← div_eq_mul_inv, div_le_iff₀ hq]
      refine (abs_le_of_sq_le_sq' ?_ (by positivity)) |> abs_le.2
      rw [mul_pow, Real.sq_sqrt hp.le]
      nlinarith

/-- The largest magnitude of a block as both programs fold it. -/
def amax (y : Fin 128 → EReal) : EReal := Finset.univ.fold max (Ideal.ofBits .f32 0xFF800000#32) fun l => max (y l) (-(y l))

/-- On a block of normalised values with gains of magnitude at most 2^127 the two quantisers agree. -/
theorem block_eq (y : Fin 128 → EReal) (hy : ∀ l, ∃ t g : ℝ, |t| ≤ 120 ∧ |g| ≤ 170141183460469231731687303715884105728 ∧ y l = (t : EReal) * (g : EReal)) :
    scaleK (amax y) = Ideal.exp2 (eR (amax y)) ∧ invK (amax y) = Ideal.exp2 (Ideal.ofBits .f32 0x00000000#32 - eR (amax y)) := by
  have hb : ∀ l, max (y l) (-(y l)) ≤ ((120 * 170141183460469231731687303715884105728 : ℝ) : EReal) := fun l => by
    obtain ⟨t, g, ht, hg, h⟩ := hy l
    have hm : |t * g| ≤ 120 * 170141183460469231731687303715884105728 := by
      rw [abs_mul]; exact mul_le_mul ht hg (abs_nonneg _) (by norm_num)
    rw [h, ← EReal.coe_mul, ← EReal.coe_neg]
    have h1 := (abs_le.1 hm).2
    have h2 : -(t * g) ≤ 120 * 170141183460469231731687303715884105728 := by linarith [(abs_le.1 hm).1]
    exact max_le (EReal.coe_le_coe_iff.2 h1) (EReal.coe_le_coe_iff.2 h2)
  have hle : amax y ≤ ((120 * 170141183460469231731687303715884105728 : ℝ) : EReal) := by
    unfold amax
    rw [Finset.fold_max_le, ofBits_bot]
    exact ⟨bot_le, fun l _ => hb l⟩
  have hge : (0 : EReal) ≤ amax y := by
    have h0 : (0 : EReal) ≤ max (y 0) (-(y 0)) := by
      rcases le_total 0 (y 0) with h | h
      · exact le_max_of_le_left h
      · exact le_max_of_le_right (EReal.neg_nonneg.2 h)
    unfold amax
    rw [Finset.le_fold_max]
    exact Or.inr ⟨0, Finset.mem_univ _, h0⟩
  generalize amax y = a at hle hge
  induction a with
  | bot => exact absurd hge (by simp)
  | top => exact absurd hle (not_le.2 (EReal.coe_lt_top _))
  | coe r =>
    have hr : r ≤ 120 * 170141183460469231731687303715884105728 := EReal.coe_le_coe_iff.1 hle
    refine scale_eq r ?_
    have : pw 253 = 85070591730234615865843651857942052864 := by unfold pw; norm_num
    rw [this]
    unfold cinv
    linarith

end Cert.Quant

end
-- ==== Proof.Lays.lean ====
/-
  The kernel's tile as numbers: what the two loops store, read over the extended reals as functions of the tile's inputs indexed by
  natural numbers, and the two programs' common mathematics written on such functions.
-/
module

public import proofs.«01_k».proof.Proof.Tiles
public import proofs.«01_k».proof.Proof.Maths
public import Idealize.ShloMosaic.Lib.Pointwise
public import Idealize.ShloMosaic.Lib.Pipeline.Value

@[expose] public section

set_option maxRecDepth 16384
set_option maxHeartbeats 1000000

noncomputable section

namespace Cert.Quant

open Idealize.ShloMosaic

/-- A matrix as a function of two naturals, zero outside. -/
def ext2 {m n : ℕ} (v : (⟨2, ![m, n]⟩ : Shape).Idx → EReal) (a b : ℕ) : EReal := if h : a < m ∧ b < n then v (ix2 ⟨a, h.1⟩ ⟨b, h.2⟩) else 0

theorem ext2_apply {m n : ℕ} (v : (⟨2, ![m, n]⟩ : Shape).Idx → EReal) (y : (⟨2, ![m, n]⟩ : Shape).Idx) : v y = ext2 v (y 0).val (y 1).val := by
  unfold ext2
  rw [dif_pos ⟨(y 0).isLt, (y 1).isLt⟩]
  congr 1
  funext a
  match a with
  | ⟨0, _⟩ => rfl
  | ⟨1, _⟩ => rfl

section
variable (x r : ℕ → ℕ → EReal) (g : ℕ → EReal)
/-- The residual sum, -/
def hN (a b : ℕ) : EReal := x a b + r a b
/-- a row's reciprocal root mean square, -/
def rsN (a : ℕ) : EReal := Ideal.rsqrt (Ideal.div (∑ n : Fin 112, ∑ l : Fin 128, hN x r a (128 * n.val + l.val) * hN x r a (128 * n.val + l.val)) (Ideal.ofBits .f32 0x46600000#32)
  + Ideal.ofBits .f32 0x358637BD#32)
/-- the normalised value, -/
def yN (a b : ℕ) : EReal := hN x r a b * rsN x r a * g b
/-- a block of normalised values, -/
def blkN (a n : ℕ) : Fin 128 → EReal := fun l => yN x r g a (128 * n + l.val)
/-- a value scaled and clamped, -/
def clampE (v : EReal) : EReal := min (Ideal.ofBits .f32 0x43E00000#32) (max (Ideal.ofBits .f32 0xC3E00000#32) v)
/-- the kernel's code -/
def codeN (a b : ℕ) : EReal := clampE (yN x r g a b * invK (amax (blkN x r g a (b / 128))))
/-- and its scale. -/
def scaleN (a n : ℕ) : EReal := scaleK (amax (blkN x r g a n))
end

end Cert.Quant

namespace Cert.KernelIdeal.Hand

open Cert.KernelIdeal Cert.KernelIdeal.Gen Cert.Quant
open Idealize.ShloMosaic Idealize.ShloMosaic.TcCoe Idealize.ShloMosaic.Tactic

/-- The pieces store `G`, and cover `D`. -/
def Lays {s : Shape} {e : EltTy} (G : s.Idx → Elt Ideal e) (D : s.Idx → Prop) (L : List (View.Piece (Elt Ideal) s e)) : Prop :=
  (∀ p ∈ L, ∀ x, p.2 x = G (p.1.emb x)) ∧ ∀ y, D y → ∃ p ∈ L, y ∈ p.1.set

theorem Lays.append {s : Shape} {e : EltTy} {G : s.Idx → Elt Ideal e} {D D' E : s.Idx → Prop} {L L' : List (View.Piece (Elt Ideal) s e)}
    (h : Lays G D L) (h' : Lays G D' L') (hE : ∀ y, E y → D y ∨ D' y) : Lays G E (L ++ L') := by
  refine ⟨fun p hp => ?_, fun y hy => ?_⟩
  · rcases List.mem_append.1 hp with hp | hp
    · exact h.1 p hp
    · exact h'.1 p hp
  · rcases hE y hy with hy | hy
    · obtain ⟨p, hp, hm⟩ := h.2 y hy; exact ⟨p, List.mem_append_left _ hp, hm⟩
    · obtain ⟨p, hp, hm⟩ := h'.2 y hy; exact ⟨p, List.mem_append_right _ hp, hm⟩

theorem Lays.nil {s : Shape} {e : EltTy} {G : s.Idx → Elt Ideal e} {E : s.Idx → Prop} (hE : ∀ y, ¬ E y) : Lays G E [] :=
  ⟨fun p hp => (nomatch hp), fun y hy => absurd hy (hE y)⟩

theorem Lays.one {s : Shape} {e : EltTy} {G : s.Idx → Elt Ideal e} {E : s.Idx → Prop} {p : View.Piece (Elt Ideal) s e} (h : ∀ x, p.2 x = G (p.1.emb x))
    (hE : ∀ y, E y → y ∈ p.1.set) : Lays G E [p] :=
  ⟨fun q hq => by rw [List.mem_singleton.1 hq]; exact h, fun y hy => ⟨p, List.mem_singleton_self p, hE y hy⟩⟩

theorem Lays.read {s : Shape} {e : EltTy} {G : s.Idx → Elt Ideal e} {D : s.Idx → Prop} {L : List (View.Piece (Elt Ideal) s e)}
    (h : Lays G D L) {sg : RefSig} {κ : Kind} {sp : Space} (v : View sg κ sp s e) (f : v.ty.Contents (Elt Ideal)) (y : s.Idx) (hy : D y) :
    v.read (Elt Ideal) (v.writes (Elt Ideal) f L) y = G y :=
  View.read_writes_apply_of_pieces v f G L h.1 y (h.2 y hy)

/-- Membership in a rectangle of a matrix. -/
theorem mem_unit2 {m n p q : ℕ} (off : Fin 2 → ℕ) (inb : ∀ a, off a + (![p, q] : Fin 2 → ℕ) a ≤ (![m, n] : Fin 2 → ℕ) a) (y : (⟨2, ![m, n]⟩ : Shape).Idx)
    (h0 : off 0 ≤ (y 0).val) (h0' : (y 0).val < off 0 + p) (h1 : off 1 ≤ (y 1).val) (h1' : (y 1).val < off 1 + q) :
    y ∈ (Rect.unit (s := (⟨2, ![m, n]⟩ : Shape)) off ![p, q] inb).set := by
  rw [Rect.mem_set_unit]
  intro a
  match a with
  | ⟨0, _⟩ => exact ⟨h0, h0'⟩
  | ⟨1, _⟩ => exact ⟨h1, h1'⟩

section First
variable {arg1 arg2 : Memref sig .tc .vmem S64x14336 .bf16}
  {f1 : BufTy.Contents (Elt Ideal) arg1.view.ty} {f2 : BufTy.Contents (Elt Ideal) arg2.view.ty}

/-- The tile's first input, -/
abbrev xT (arg1 : Memref sig .tc .vmem S64x14336 .bf16) (f1 : BufTy.Contents (Elt Ideal) arg1.view.ty) : ℕ → ℕ → EReal :=
  ext2 (m := 64) (n := 14336) (arg1.view.read (Elt Ideal) f1)

theorem add_casts (u v : FVec Ideal S16x128 .bf16) (x : S16x128.Idx) :
    addf (shapeCast S16x128 u shapeCasts_S16x128_S16x128) (shapeCast S16x128 v shapeCasts_S16x128_S16x128) x = u x + v x := by
  rw [shapeCast_self, shapeCast_self]
  rfl

theorem hV_apply (off : Fin 2 → ℕ) (inb : ∀ a, off a + S16x128.size a ≤ S64x14336.size a) (x : S16x128.Idx) :
    hV arg1 arg2 f1 f2 off inb x = hN (xT arg1 f1) (xT arg2 f2) (off 0 + (x 0).val) (off 1 + (x 1).val) := by
  refine (add_casts _ _ x).trans ?_
  unfold hN
  show arg1.view.read (Elt Ideal) f1 _ + arg2.view.read (Elt Ideal) f2 _ = _
  rw [ext2_apply (m := 64) (n := 14336) (arg1.view.read (Elt Ideal) f1), ext2_apply (m := 64) (n := 14336) (arg2.view.read (Elt Ideal) f2)]
  simp only [xT, Rect.toLoadRect, Rect.unit, LoadRect.idx_apply, one_mul]

theorem HP.lays {k n : ℕ} {L : List (View.Piece (Elt Ideal) S64x14336 .bf16)} (h : HP arg1 arg2 f1 f2 k n L) :
    Lays (e := .bf16) (fun y => hN (xT arg1 f1) (xT arg2 f2) (y 0).val (y 1).val) (fun y => 16 * k ≤ (y 0).val ∧ (y 0).val < 16 * k + 16 ∧ (y 1).val < 128 * n) L := by
  induction h with
  | nil => exact .nil fun y hy => by omega
  | @cons n L off inb h hL ih =>
    refine Lays.append (L := [_]) (.one (E := fun y => 16 * k ≤ (y 0).val ∧ (y 0).val < 16 * k + 16 ∧ 128 * n ≤ (y 1).val ∧ (y 1).val < 128 * n + 128) (fun x => ?_) fun y hy => ?_) ih fun y hy => by omega
    · show hV arg1 arg2 f1 f2 off inb x = _
      rw [hV_apply]
      show _ = hN _ _ (off 0 + 1 * (x 0).val) (off 1 + 1 * (x 1).val)
      rw [one_mul, one_mul]
    · subst h
      exact mem_unit2 (m := 64) (n := 14336) _ inb y hy.1 hy.2.1 hy.2.2.1 hy.2.2.2

theorem AccP.apply {k n : ℕ} {A : FVec Ideal S16x128 .f32} (h : AccP arg1 arg2 f1 f2 k n A) (x : S16x128.Idx) :
    A x = ∑ n' ∈ Finset.range n, hN (xT arg1 f1) (xT arg2 f2) (16 * k + (x 0).val) (128 * n' + (x 1).val) * hN (xT arg1 f1) (xT arg2 f2) (16 * k + (x 0).val) (128 * n' + (x 1).val) := by
  induction h with
  | one off inb h =>
    subst h
    rw [Finset.sum_range_one]
    show hV arg1 arg2 f1 f2 _ inb x * hV arg1 arg2 f1 f2 _ inb x = _
    rw [hV_apply]
    rfl
  | @add n A off inb h hA ih =>
    subst h
    rw [Finset.sum_range_succ, ← ih]
    show A x + hV arg1 arg2 f1 f2 _ inb x * hV arg1 arg2 f1 f2 _ inb x = _
    rw [hV_apply]
    rfl

/-- The row factors the first loop stores. -/
theorem rs_apply {k : ℕ} {A : FVec Ideal S16x128 .f32} (h : AccP arg1 arg2 f1 f2 k 112 A) (x : S16x128.Idx) :
    k0_pay1 (multiReduction .add [1] S16 A 0x00000000#32 reduces_S16x128_S16 (.inl rfl) rfl) x = rsN (xT arg1 f1) (xT arg2 f2) (16 * k + (x 0).val) := by
  have e : k0_pay1 (multiReduction .add [1] S16 A 0x00000000#32 reduces_S16x128_S16 (.inl rfl) rfl) x
      = Ideal.rsqrt (Ideal.div (∑ l : Fin 128, A (ix2 (x 0) l)) (Ideal.ofBits .f32 0x46600000#32) + Ideal.ofBits .f32 0x358637BD#32) := by
    pointwise [k0_pay1]
  rw [e]
  unfold rsN
  rw [Finset.sum_comm]
  congr 3
  refine Finset.sum_congr rfl fun l _ => ?_
  rw [h.apply, Finset.sum_range]
  rfl
end First

section Second
/-! ### The second loop's vectors at an index -/

theorem stepV_apply {s : Shape} (m : FVec Ideal s .f32) (w : BitVec 32) (f : IVec s 32) (i : s.Idx) : stepV m w f i = step (m i) w (f i) := by
  show (if Ideal.cmp .oge (m i) (Ideal.ofBits .f32 (f i + w)) = 1#1 then f i + w else f i) = _
  unfold step Ideal.cmp
  by_cases h : Ideal.ofBits .f32 (f i + w) ≤ m i
  · simp [h]
  · simp [h]

theorem fieldV_apply {s : Shape} (m : FVec Ideal s .f32) (i : s.Idx) : fieldV m i = field (m i) := by
  unfold fieldV field
  simp only [stepV_apply]
  rfl

theorem mV_apply {s : Shape} (a : FVec Ideal s .f32) (i : s.Idx) : mV a i = mK (a i) := by
  show (if Ideal.cmp .olt (a i * Ideal.ofBits .f32 0x3B124925#32) (Ideal.ofBits .f32 0x00800000#32) = 1#1 then Ideal.ofBits .f32 0x3F000000#32 else a i * Ideal.ofBits .f32 0x3B124925#32) = _
  unfold mK Ideal.cmp
  by_cases h : a i * Ideal.ofBits .f32 0x3B124925#32 < Ideal.ofBits .f32 0x00800000#32
  · simp [h]
  · simp [h]

theorem scalesV_apply {s : Shape} (a : FVec Ideal s .f32) (i : s.Idx) : scalesV a i = scaleK (a i) := by
  show Ideal.ofBits .f32 (fieldV (mV a) i + 8388608#32) = _
  rw [fieldV_apply, mV_apply]
  rfl

theorem aV_apply (Y : FVec Ideal S32x128 .f32) (i : S32x1.Idx) : aV Y i = amax (fun l => Y (ix2 (i 0) l)) := by
  unfold amax
  pointwise [aV]
  rfl

theorem code_word (Y : FVec Ideal S32x128 .f32) (M : IVec S32x128 32) (lo hi w : BitVec 32) (i : S32x128.Idx) :
    truncf (F := Ideal) .fp8e4m3 (minimumf (broadcast S32x128 (Scalar.ofBits .f32 hi)) (maximumf (broadcast S32x128 (Scalar.ofBits .f32 lo))
      (mulf Y (bitcastToFloat .f32 (subi (broadcast S32x128 w) M))))) bitsLt_fp8e4m3_f32 i
    = min (Ideal.ofBits .f32 hi) (max (Ideal.ofBits .f32 lo) (Y i * Ideal.ofBits .f32 (w - M i))) := rfl

theorem row_of (a : FVec Ideal S32x1 .f32) (i : S32x128.Idx) : broadcastTo S32x128 a broadcasts_S32x1_S32x128 i = a (ix2 (i 0) 0) := by pointwise

theorem col_of (a : FVec Ideal S1x128 .f32) (i : S32x128.Idx) : broadcastTo S32x128 a broadcasts_S1x128_S32x128 i = a (ix2 0 (i 1)) := by pointwise

theorem codesV_apply (Y : FVec Ideal S32x128 .f32) (i : S32x128.Idx) : codesV Y i = clampE (Y i * invK (amax (fun l => Y (ix2 (i 0) l)))) := by
  unfold codesV
  rw [code_word, fieldV_apply, mV_apply, row_of, shapeCast_self, aV_apply]
  unfold invK clampE
  rfl

theorem y_casts (H : FVec Ideal S32x128 .bf16) (R : FVec Ideal S32x128 .f32) (G : FVec Ideal S1x128 .f32) (i : S32x128.Idx) :
    mulf (mulf (extf .f32 (shapeCast S32x128 H shapeCasts_S32x128_S32x128) bitsLt_bf16_f32) R)
      (broadcastTo S32x128 (shapeCast S1x128 G shapeCasts_S1x128_S1x128) broadcasts_S1x128_S32x128) i = H i * R i * G (ix2 0 (i 1)) := by
  rw [shapeCast_self, shapeCast_self]
  show _ * broadcastTo S32x128 G broadcasts_S1x128_S32x128 i = _
  rw [col_of]
  rfl

variable {arg3 : Memref sig .tc .vmem S1x14336 .f32} {arg4 : Memref sig .tc .vmem S64x14336 .bf16} {arg7 : Memref sig .tc .vmem S64x128 .f32}
  {f3 : BufTy.Contents (Elt Ideal) arg3.view.ty} {f4 : BufTy.Contents (Elt Ideal) arg4.view.ty} {f7 : BufTy.Contents (Elt Ideal) arg7.view.ty}

/-- The tile's gains. -/
abbrev gT (arg3 : Memref sig .tc .vmem S1x14336 .f32) (f3 : BufTy.Contents (Elt Ideal) arg3.view.ty) : ℕ → EReal :=
  ext2 (m := 1) (n := 14336) (arg3.view.read (Elt Ideal) f3) 0

variable {x r : ℕ → ℕ → EReal}
  (h4 : ∀ y : S64x14336.Idx, arg4.view.read (Elt Ideal) f4 y = hN x r (y 0).val (y 1).val)
  (h7 : ∀ y : S64x128.Idx, arg7.view.read (Elt Ideal) f7 y = rsN x r (y 0).val)
include h4 h7

theorem yV_apply (k : Fin k0_t2_loop.trips) (n : ℕ) (off : Fin 2 → ℕ) (inb : ∀ a, off a + S32x128.size a ≤ S64x14336.size a)
    (off3 : Fin 2 → ℕ) (inb3 : ∀ a, off3 a + S1x128.size a ≤ S1x14336.size a) (h : off = ![32 * k.val, 128 * n]) (h3 : off3 = ![0, 128 * n]) (i : S32x128.Idx) :
    yV arg3 arg4 arg7 f3 f4 f7 k off inb off3 inb3 i = yN x r (gT arg3 f3) (32 * k.val + (i 0).val) (128 * n + (i 1).val) := by
  subst h h3
  refine (y_casts _ _ _ i).trans ?_
  unfold yN
  show arg4.view.read (Elt Ideal) f4 _ * arg7.view.read (Elt Ideal) f7 _ * arg3.view.read (Elt Ideal) f3 _ = _
  rw [h4, h7, ext2_apply (m := 1) (n := 14336) (arg3.view.read (Elt Ideal) f3)]
  have ek : k0_off114 k 0 = 32 * k.val := by rw [k0_off114_eq]; rfl
  simp only [gT, Rect.toLoadRect, Rect.unit, LoadRect.idx_apply, one_mul, ek]
  rfl

theorem CP.lays {k : Fin k0_t2_loop.trips} {n : ℕ} {L : List (View.Piece (Elt Ideal) S64x14336 .fp8e4m3)} (h : CP arg3 arg4 arg7 f3 f4 f7 k n L) :
    Lays (e := .fp8e4m3) (fun y => codeN x r (gT arg3 f3) (y 0).val (y 1).val) (fun y => 32 * k.val ≤ (y 0).val ∧ (y 0).val < 32 * k.val + 32 ∧ (y 1).val < 128 * n) L := by
  induction h with
  | nil => exact .nil fun y hy => by omega
  | @cons n L off inb off3 inb3 h h3 hL ih =>
    refine Lays.append (L := [_]) (.one (E := fun y => 32 * k.val ≤ (y 0).val ∧ (y 0).val < 32 * k.val + 32 ∧ 128 * n ≤ (y 1).val ∧ (y 1).val < 128 * n + 128) (fun i => ?_) fun y hy => ?_) ih fun y hy => by omega
    · show codesV (yV arg3 arg4 arg7 f3 f4 f7 k off inb off3 inb3) i = codeN x r (gT arg3 f3) (off 0 + 1 * (i 0).val) (off 1 + 1 * (i 1).val)
      rw [codesV_apply]
      simp only [yV_apply h4 h7 k n off inb off3 inb3 h h3]
      subst h
      have hi : (i 1).val < 128 := (i 1).isLt
      show _ = codeN x r (gT arg3 f3) (32 * k.val + 1 * (i 0).val) (128 * n + 1 * (i 1).val)
      rw [one_mul, one_mul]
      unfold codeN blkN
      rw [show (128 * n + (i 1).val) / 128 = n by omega]
      rfl
    · subst h
      exact mem_unit2 (m := 64) (n := 14336) _ inb y hy.1 hy.2.1 hy.2.2.1 hy.2.2.2

theorem MP.lays {k : Fin k0_t2_loop.trips} {n : ℕ} {L : List (View.Piece (Elt Ideal) S64x128 .f32)} (h : MP arg3 arg4 arg7 f3 f4 f7 k n L) :
    Lays (e := .f32) (fun y => amax (blkN x r (gT arg3 f3) (y 0).val (y 1).val)) (fun y => 32 * k.val ≤ (y 0).val ∧ (y 0).val < 32 * k.val + 32 ∧ (y 1).val < n) L := by
  induction h with
  | nil => exact .nil fun y hy => by omega
  | @cons n L off inb off3 inb3 off8 inb8 h h3 h8 hL ih =>
    refine Lays.append (L := [_]) (.one (E := fun y => 32 * k.val ≤ (y 0).val ∧ (y 0).val < 32 * k.val + 32 ∧ n ≤ (y 1).val ∧ (y 1).val < n + 1) (fun i => ?_) fun y hy => ?_) ih fun y hy => by omega
    · show shapeCast S32x1 (aV (yV arg3 arg4 arg7 f3 f4 f7 k off inb off3 inb3)) shapeCasts_S32x1_S32x1 i = amax (blkN x r (gT arg3 f3) (off8 0 + 1 * (i 0).val) (off8 1 + 1 * (i 1).val))
      rw [shapeCast_self, aV_apply]
      simp only [yV_apply h4 h7 k n off inb off3 inb3 h h3]
      subst h8
      have hi : (i 1).val < 1 := (i 1).isLt
      show _ = amax (blkN x r (gT arg3 f3) (32 * k.val + 1 * (i 0).val) (n + 1 * (i 1).val))
      rw [one_mul, show n + 1 * (i 1).val = n by omega]
      rfl
    · subst h8
      exact mem_unit2 (m := 64) (n := 128) _ inb8 y hy.1 hy.2.1 hy.2.2.1 hy.2.2.2
end Second

end Cert.KernelIdeal.Hand

end
-- ==== Proof.TileValue.lean ====
/-
  What the kernel's body leaves in its three results' buffers over the extended reals: the two loops' trips together.
-/
module

public import proofs.«01_k».proof.Proof.Lays

@[expose] public section

set_option maxRecDepth 16384
set_option maxHeartbeats 1000000

noncomputable section

namespace Cert.KernelIdeal.Hand

open Cert.KernelIdeal Cert.KernelIdeal.Gen Cert.Quant
open Idealize.ShloMosaic Idealize.ShloMosaic.TcCoe Idealize.ShloMosaic.Tactic

theorem trips1 : k0_t1_loop.trips = 4 := by decide +kernel
theorem trips2 : k0_t2_loop.trips = 2 := by decide +kernel

section
variable (c : Dev nD) (i : grid0.Coords)
  (arg1 : Memref sig .tc .vmem S64x14336 .bf16) (harg1 : arg1.IsWhole) (arg2 : Memref sig .tc .vmem S64x14336 .bf16) (harg2 : arg2.IsWhole)
  (arg3 : Memref sig .tc .vmem S1x14336 .f32) (harg3 : arg3.IsWhole) (arg4 : Memref sig .tc .vmem S64x14336 .bf16) (harg4 : arg4.IsWhole)
  (arg5 : Memref sig .tc .vmem S64x14336 .fp8e4m3) (harg5 : arg5.IsWhole) (arg6 : Memref sig .tc .vmem S64x112 .f32) (harg6 : arg6.IsWhole)
  (arg7 : Memref sig .tc .vmem S64x128 .f32) (harg7 : arg7.IsWhole) (arg8 : Memref sig .tc .vmem S64x128 .f32) (harg8 : arg8.IsWhole)
  (f1 : BufTy.Contents (Elt Ideal) arg1.view.ty) (f2 : BufTy.Contents (Elt Ideal) arg2.view.ty) (f3 : BufTy.Contents (Elt Ideal) arg3.view.ty)
  (f4 : BufTy.Contents (Elt Ideal) arg4.view.ty) (f5 : BufTy.Contents (Elt Ideal) arg5.view.ty) (f6 : BufTy.Contents (Elt Ideal) arg6.view.ty)
  (f7 : BufTy.Contents (Elt Ideal) arg7.view.ty) (f8 : BufTy.Contents (Elt Ideal) arg8.view.ty)

/-- The first `k` trips of the first loop store the first `16 k` rows of the residual sum and of the row factors. -/
theorem pb1_lays (k : ℕ) (hk : k ≤ k0_t1_loop.trips) :
    Lays (e := .bf16) (fun y => hN (xT arg1 f1) (xT arg2 f2) (y 0).val (y 1).val) (fun y => (y 0).val < 16 * k) (pb_k0_t1 (F := Ideal) Variants.none c none i arg1 harg1 arg2 harg2 arg3 harg3 arg4 harg4 arg5 harg5 arg6 harg6 arg7 harg7 arg8 harg8 f1 f2 k).1
    ∧ Lays (e := .f32) (fun y => rsN (xT arg1 f1) (xT arg2 f2) (y 0).val) (fun y => (y 0).val < 16 * k) (pb_k0_t1 (F := Ideal) Variants.none c none i arg1 harg1 arg2 harg2 arg3 harg3 arg4 harg4 arg5 harg5 arg6 harg6 arg7 harg7 arg8 harg8 f1 f2 k).2 := by
  induction k with
  | zero => exact ⟨.nil fun y hy => by omega, .nil fun y hy => by omega⟩
  | succ k ih =>
    obtain ⟨ih1, ih2⟩ := ih (by omega)
    have hs := pb_k0_t1_succ (F := Ideal) Variants.none c none i arg1 harg1 arg2 harg2 arg3 harg3 arg4 harg4 arg5 harg5 arg6 harg6 arg7 harg7 arg8 harg8 f1 f2 ⟨k, hk⟩
    dsimp only at hs
    rw [hs]
    constructor
    · refine Lays.append (trip1_h (F := Ideal) Variants.none c none i arg1 harg1 arg2 harg2 arg3 harg3 arg4 harg4 arg5 harg5 arg6 harg6 arg7 harg7 arg8 harg8 f1 f2 ⟨k, hk⟩).lays ih1 fun y hy => ?_
      have hy1 : (y 1).val < 14336 := (y 1).isLt
      dsimp only
      omega
    · obtain ⟨A, hA, hL⟩ := trip1_rs (F := Ideal) Variants.none c none i arg1 harg1 arg2 harg2 arg3 harg3 arg4 harg4 arg5 harg5 arg6 harg6 arg7 harg7 arg8 harg8 f1 f2 ⟨k, hk⟩
      refine Lays.append (D := fun y => 16 * k ≤ (y 0).val ∧ (y 0).val < 16 * k + 16) ?_ ih2 fun y hy => ?_
      · show Lays _ _ (trip_k0_t1 (F := Ideal) Variants.none c none i arg1 harg1 arg2 harg2 arg3 harg3 arg4 harg4 arg5 harg5 arg6 harg6 arg7 harg7 arg8 harg8 f1 f2 ⟨k, hk⟩).2.1
        rw [hL]
        have eo : k0_off113 ⟨k, hk⟩ = ![16 * k, 0] := k0_off113_eq ⟨k, hk⟩
        refine .one (fun x => ?_) fun y hy => ?_
        · have e0 : k0_off113 ⟨k, hk⟩ 0 = 16 * k := by rw [eo]; rfl
          show k0_pay1 (F := Ideal) _ x = rsN _ _ (k0_off113 ⟨k, hk⟩ 0 + 1 * (x 0).val)
          rw [e0, one_mul]
          exact rs_apply hA x
        · have hy1 : (y 1).val < 128 := (y 1).isLt
          have e0 : k0_off113 ⟨k, hk⟩ 0 = 16 * k := by rw [eo]; rfl
          have e1 : k0_off113 ⟨k, hk⟩ 1 = 0 := by rw [eo]; rfl
          refine mem_unit2 (m := 64) (n := 128) (p := 16) (q := 128) _ (k0_off113_inb ⟨k, hk⟩) y ?_ ?_ ?_ ?_
          · rw [e0]; exact hy.1
          · rw [e0]; exact hy.2
          · rw [e1]; omega
          · rw [e1]; omega
      · dsimp only
        omega

theorem g4_apply (y : S64x14336.Idx) :
    arg4.view.read (Elt Ideal) (g4 (F := Ideal) c i arg1 harg1 arg2 harg2 arg3 harg3 arg4 harg4 arg5 harg5 arg6 harg6 arg7 harg7 arg8 harg8 f1 f2 f4) y = hN (xT arg1 f1) (xT arg2 f2) (y 0).val (y 1).val := by
  have h := (pb1_lays c i arg1 harg1 arg2 harg2 arg3 harg3 arg4 harg4 arg5 harg5 arg6 harg6 arg7 harg7 arg8 harg8 f1 f2 k0_t1_loop.trips (le_refl _)).1
  have hy : (y 0).val < 64 := (y 0).isLt
  exact h.read arg4.view f4 y (by show (y 0).val < 16 * k0_t1_loop.trips; rw [trips1]; omega)

theorem g7_apply (y : S64x128.Idx) :
    arg7.view.read (Elt Ideal) (g7 (F := Ideal) c i arg1 harg1 arg2 harg2 arg3 harg3 arg4 harg4 arg5 harg5 arg6 harg6 arg7 harg7 arg8 harg8 f1 f2 f7) y = rsN (xT arg1 f1) (xT arg2 f2) (y 0).val := by
  have h := (pb1_lays c i arg1 harg1 arg2 harg2 arg3 harg3 arg4 harg4 arg5 harg5 arg6 harg6 arg7 harg7 arg8 harg8 f1 f2 k0_t1_loop.trips (le_refl _)).2
  have hy : (y 0).val < 64 := (y 0).isLt
  exact h.read arg7.view f7 y (by show (y 0).val < 16 * k0_t1_loop.trips; rw [trips1]; omega)

section
variable {x r : ℕ → ℕ → EReal}
  (h4 : ∀ y : S64x14336.Idx, arg4.view.read (Elt Ideal) f4 y = hN x r (y 0).val (y 1).val)
  (h7 : ∀ y : S64x128.Idx, arg7.view.read (Elt Ideal) f7 y = rsN x r (y 0).val)
include h4 h7

/-- The scales one trip of the second loop stores. -/
theorem scales_lays (k : Fin k0_t2_loop.trips) :
    Lays (e := .f32) (fun y => scaleN x r (gT arg3 f3) (y 0).val (y 1).val) (fun y => 32 * k.val ≤ (y 0).val ∧ (y 0).val < 32 * k.val + 32)
      ((trip_k0_t2 (F := Ideal) Variants.none c none i arg1 harg1 arg2 harg2 arg3 harg3 arg4 harg4 arg5 harg5 arg6 harg6 arg7 harg7 arg8 harg8 f3 f4 f7 k).2.1 f5 f6 f8) := by
  obtain ⟨L, hL, e⟩ := trip2_scales (F := Ideal) Variants.none c none i arg1 harg1 arg2 harg2 arg3 harg3 arg4 harg4 arg5 harg5 arg6 harg6 arg7 harg7 arg8 harg8 f3 f4 f7 f5 f6 f8 k
  rw [e]
  have e0 : k0_off340 k 0 = 32 * k.val := by rw [k0_off340_eq]; rfl
  have e1 : k0_off340 k 1 = 0 := by rw [k0_off340_eq]; rfl
  have d0 : k0_off339 k 0 = 32 * k.val := by rw [k0_off339_eq]; rfl
  have d1 : k0_off339 k 1 = 0 := by rw [k0_off339_eq]; rfl
  refine .one (fun z => ?_) fun y hy => ?_
  · have hz0 : (z 0).val < 32 := (z 0).isLt
    have hz1 : (z 1).val < 112 := (z 1).isLt
    show scalesV (F := Ideal) (s := S32x112) _ z = scaleN x r (gT arg3 f3) (k0_off340 k 0 + 1 * (z 0).val) (k0_off340 k 1 + 1 * (z 1).val)
    rw [scalesV_apply, e0, e1]
    unfold scaleN
    refine congrArg scaleK ?_
    have hr := (hL.lays h4 h7).read arg8.view arg8.view.junk ((Rect.unit (s := S64x128) (k0_off339 k) S32x112.size (k0_off339_inb k)).toLoadRect.idx z) (by
      show 32 * k.val ≤ k0_off339 k 0 + 1 * (z 0).val ∧ k0_off339 k 0 + 1 * (z 0).val < 32 * k.val + 32 ∧ k0_off339 k 1 + 1 * (z 1).val < 112
      rw [d0, d1]
      omega)
    refine hr.trans ?_
    show amax (blkN x r (gT arg3 f3) (k0_off339 k 0 + 1 * (z 0).val) (k0_off339 k 1 + 1 * (z 1).val)) = _
    rw [d0, d1]
  · have hy1 : (y 1).val < 112 := (y 1).isLt
    refine mem_unit2 (m := 64) (n := 112) (p := 32) (q := 112) _ (k0_off340_inb k) y ?_ ?_ ?_ ?_
    · rw [e0]; exact hy.1
    · rw [e0]; exact hy.2
    · rw [e1]; omega
    · rw [e1]; omega

/-- The first `k` trips of the second loop store the first `32 k` rows of the codes and of the scales. -/
theorem pb2_lays (k : ℕ) (hk : k ≤ k0_t2_loop.trips) :
    Lays (e := .fp8e4m3) (fun y => codeN x r (gT arg3 f3) (y 0).val (y 1).val) (fun y => (y 0).val < 32 * k) (pb_k0_t2 (F := Ideal) Variants.none c none i arg1 harg1 arg2 harg2 arg3 harg3 arg4 harg4 arg5 harg5 arg6 harg6 arg7 harg7 arg8 harg8 f3 f4 f7 f5 f6 f8 k).1
    ∧ Lays (e := .f32) (fun y => scaleN x r (gT arg3 f3) (y 0).val (y 1).val) (fun y => (y 0).val < 32 * k) (pb_k0_t2 (F := Ideal) Variants.none c none i arg1 harg1 arg2 harg2 arg3 harg3 arg4 harg4 arg5 harg5 arg6 harg6 arg7 harg7 arg8 harg8 f3 f4 f7 f5 f6 f8 k).2.1 := by
  induction k with
  | zero => exact ⟨.nil fun y hy => by omega, .nil fun y hy => by omega⟩
  | succ k ih =>
    obtain ⟨ih1, ih2⟩ := ih (by omega)
    have hs := pb_k0_t2_succ (F := Ideal) Variants.none c none i arg1 harg1 arg2 harg2 arg3 harg3 arg4 harg4 arg5 harg5 arg6 harg6 arg7 harg7 arg8 harg8 f3 f4 f7 f5 f6 f8 ⟨k, hk⟩
    dsimp only at hs
    rw [hs]
    constructor
    · refine Lays.append ((trip2_codes (F := Ideal) Variants.none c none i arg1 harg1 arg2 harg2 arg3 harg3 arg4 harg4 arg5 harg5 arg6 harg6 arg7 harg7 arg8 harg8 f3 f4 f7 _ _ _ ⟨k, hk⟩).lays h4 h7) ih1 fun y hy => ?_
      have hy1 : (y 1).val < 14336 := (y 1).isLt
      dsimp only
      omega
    · refine Lays.append (scales_lays c i arg1 harg1 arg2 harg2 arg3 harg3 arg4 harg4 arg5 harg5 arg6 harg6 arg7 harg7 arg8 harg8 f3 f4 _ _ f7 _ h4 h7 ⟨k, hk⟩) ih2 fun y hy => ?_
      dsimp only
      omega
end

theorem g5_apply (y : S64x14336.Idx) :
    arg5.view.read (Elt Ideal) (arg5.view.writes (Elt Ideal) f5 (P (F := Ideal) c i arg1 harg1 arg2 harg2 arg3 harg3 arg4 harg4 arg5 harg5 arg6 harg6 arg7 harg7 arg8 harg8 f1 f2 f3 f4 f5 f6 f7 f8).1) y
      = codeN (xT arg1 f1) (xT arg2 f2) (gT arg3 f3) (y 0).val (y 1).val := by
  have h := (pb2_lays c i arg1 harg1 arg2 harg2 arg3 harg3 arg4 harg4 arg5 harg5 arg6 harg6 arg7 harg7 arg8 harg8 f3 (g4 (F := Ideal) c i arg1 harg1 arg2 harg2 arg3 harg3 arg4 harg4 arg5 harg5 arg6 harg6 arg7 harg7 arg8 harg8 f1 f2 f4) f5 f6 (g7 (F := Ideal) c i arg1 harg1 arg2 harg2 arg3 harg3 arg4 harg4 arg5 harg5 arg6 harg6 arg7 harg7 arg8 harg8 f1 f2 f7) f8
    (g4_apply c i arg1 harg1 arg2 harg2 arg3 harg3 arg4 harg4 arg5 harg5 arg6 harg6 arg7 harg7 arg8 harg8 f1 f2 f4) (g7_apply c i arg1 harg1 arg2 harg2 arg3 harg3 arg4 harg4 arg5 harg5 arg6 harg6 arg7 harg7 arg8 harg8 f1 f2 f7) k0_t2_loop.trips (le_refl _)).1
  have hy : (y 0).val < 64 := (y 0).isLt
  exact h.read arg5.view f5 y (by show (y 0).val < 32 * k0_t2_loop.trips; rw [trips2]; omega)

theorem g6_apply (y : S64x112.Idx) :
    arg6.view.read (Elt Ideal) (arg6.view.writes (Elt Ideal) f6 (P (F := Ideal) c i arg1 harg1 arg2 harg2 arg3 harg3 arg4 harg4 arg5 harg5 arg6 harg6 arg7 harg7 arg8 harg8 f1 f2 f3 f4 f5 f6 f7 f8).2.1) y
      = scaleN (xT arg1 f1) (xT arg2 f2) (gT arg3 f3) (y 0).val (y 1).val := by
  have h := (pb2_lays c i arg1 harg1 arg2 harg2 arg3 harg3 arg4 harg4 arg5 harg5 arg6 harg6 arg7 harg7 arg8 harg8 f3 (g4 (F := Ideal) c i arg1 harg1 arg2 harg2 arg3 harg3 arg4 harg4 arg5 harg5 arg6 harg6 arg7 harg7 arg8 harg8 f1 f2 f4) f5 f6 (g7 (F := Ideal) c i arg1 harg1 arg2 harg2 arg3 harg3 arg4 harg4 arg5 harg5 arg6 harg6 arg7 harg7 arg8 harg8 f1 f2 f7) f8
    (g4_apply c i arg1 harg1 arg2 harg2 arg3 harg3 arg4 harg4 arg5 harg5 arg6 harg6 arg7 harg7 arg8 harg8 f1 f2 f4) (g7_apply c i arg1 harg1 arg2 harg2 arg3 harg3 arg4 harg4 arg5 harg5 arg6 harg6 arg7 harg7 arg8 harg8 f1 f2 f7) k0_t2_loop.trips (le_refl _)).2
  have hy : (y 0).val < 64 := (y 0).isLt
  exact h.read arg6.view f6 y (by show (y 0).val < 32 * k0_t2_loop.trips; rw [trips2]; omega)
end

end Cert.KernelIdeal.Hand

end
-- ==== Proof.RunKernelIdeal.lean ====
/-
  The run of the idealised kernel over the extended reals with every result named: the body at every grid point from `Hand.bodyRun`, each
  result's buffer at the tile's mathematics, the launch by the pipeline library, and the three arrays it ends with.
-/
module

public import proofs.«01_k».proof.Proof.FrameKernelIdeal
public import proofs.«01_k».proof.Proof.TileValue
public import Idealize.ShloMosaic.Lib.Pipeline.ValueKit
public import Idealize.ShloMosaic.Lib.Pipeline.Frame

@[expose] public section

noncomputable section

namespace Cert.KernelIdeal.Exact

open Cert.KernelIdeal Cert.KernelIdeal.Gen Cert.Quant
open Cert.KernelIdeal.Hand (bodyRun pt PhiA_eq defs₀_row g4_apply g5_apply g6_apply xT gT)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The tile's first input at point `t`, -/
def xB (c : Dev nD) (t : Fin cfg0.N) : ℕ → ℕ → EReal := ext2 (m := 64) (n := 14336) (iblk m c 0 t)
/-- its second, -/
def rB (c : Dev nD) (t : Fin cfg0.N) : ℕ → ℕ → EReal := ext2 (m := 64) (n := 14336) (iblk m c 1 t)
/-- and the gains. -/
def gB (c : Dev nD) (t : Fin cfg0.N) : ℕ → EReal := ext2 (m := 1) (n := 14336) (iblk m c 2 t) 0

/-- The tile of the residual sum, -/
def T3 (c : Dev nD) (t : Fin cfg0.N) : S64x14336.Idx → EReal := fun y => hN (xB m c t) (rB m c t) (y 0).val (y 1).val
/-- of the codes -/
def T4 (c : Dev nD) (t : Fin cfg0.N) : S64x14336.Idx → EReal := fun y => codeN (xB m c t) (rB m c t) (gB m c t) (y 0).val (y 1).val
/-- and of the scales. -/
def T5 (c : Dev nD) (t : Fin cfg0.N) : S64x112.Idx → EReal := fun y => scaleN (xB m c t) (rB m c t) (gB m c t) (y 0).val (y 1).val

/-- The proof data on core `c`: the arrays as the region finds them, each input's buffer left at its block, the results at their tiles. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => T3 m c t
    | ⟨4, _⟩ => T4 m c t
    | ⟨5, _⟩ => T5 m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = T3 m c t := by dsimp only [dats]
theorem after0_4 (c : Dev nD) (t : Fin cfg0.N) : (dats m 0 c).after 4 t = T4 m c t := by dsimp only [dats]
theorem after0_5 (c : Dev nD) (t : Fin cfg0.N) : (dats m 0 c).after 5 t = T5 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- What a read of the inputs' buffers says of the tile's inputs. -/
theorem xT_eq {M : Memref sig .tc .vmem S64x14336 .bf16} {f : BufTy.Contents (Elt Ideal) M.view.ty} {v : S64x14336.Idx → EReal}
    (h : M.view.read (Elt Ideal) f = v) : xT M f = ext2 (m := 64) (n := 14336) v := by rw [← h]
theorem gT_eq {M : Memref sig .tc .vmem S1x14336 .f32} {f : BufTy.Contents (Elt Ideal) M.view.ty} {v : S1x14336.Idx → EReal}
    (h : M.view.read (Elt Ideal) f = v) : gT M f = ext2 (m := 1) (n := 14336) v 0 := by rw [← h]

theorem sound_body (c : Dev nD) (t : Fin cfg0.N) :
    bodyPre m c t ⊢ wp Idealize.ShloMosaic.frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl, PhiA_eq,
    show (dats m 0 c).owesAt () t.succ = (dats m 0 c).owesAt () t.castSucc from rfl, after0_0, after0_1, after0_2, after0_3, after0_4, after0_5]
  unfold owns
  iintro ⟨⟨⟨⟨%f7, H7⟩, ⟨%f8, H8⟩⟩, HR⟩, Ho, ⟨%d0, %f0, %hf0, H0⟩, ⟨%d1, %f1, %hf1, H1⟩, ⟨%d2, %f2, %hf2, H2⟩, ⟨%d3, %f3, -, H3⟩, ⟨%d4, %f4, -, H4⟩, ⟨%d5, %f5, -, H5⟩⟩
  iapply (bodyRun c (grid0.coords t) _ _ _ _ _ _ _ _ _ _ _ _ _ _ _ _ f0 f1 f2 f3 f4 f5 f7 f8 Set.univ _)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  iintro ⟨H0, H1, H2, H3, H4, H5, H7, H8⟩
  isplitl [HR H7 H8]
  · isplitl [H7 H8]
    · isplitl [H7]; · iexact H7
      iexact H8
    iexact HR
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr; swap; · iexact H3
    ipureintro; funext y
    refine (g4_apply c (grid0.coords t) _ _ _ _ _ _ _ _ _ _ _ _ _ _ _ _ f0 f1 f3 y).trans ?_
    rw [xT_eq hf0, xT_eq hf1]; rfl
  isplitl [H4]
  · iexists _; isplitr; swap; · iexact H4
    ipureintro; funext y
    refine (g5_apply c (grid0.coords t) _ _ _ _ _ _ _ _ _ _ _ _ _ _ _ _ f0 f1 f2 f3 f4 f5 f7 f8 y).trans ?_
    rw [xT_eq hf0, xT_eq hf1, gT_eq hf2]; rfl
  iexists _; isplitr; swap; · iexact H5
  ipureintro; funext y
  refine (g6_apply c (grid0.coords t) _ _ _ _ _ _ _ _ _ _ _ _ _ _ _ _ f0 f1 f2 f3 f4 f5 f7 f8 y).trans ?_
  rw [xT_eq hf0, xT_eq hf1, gT_eq hf2]; rfl

theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline as the proof data says, every other unscoped buffer as launched, the counters at zero. -/
theorem run_main :
    θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Exact

end
-- ==== Proof.ArraysKernelIdeal.lean ====
/-
  The three arrays the idealised kernel ends with, over the extended reals: each as one function of the arrays its region starts from.
-/
module

public import proofs.«01_k».proof.Proof.RunKernelIdeal

@[expose] public section

set_option maxRecDepth 16384

noncomputable section

namespace Cert.Quant

open Idealize.ShloMosaic

/-! ## Only a row's own entries matter -/
section
variable {x r x' r' : ℕ → ℕ → EReal} {g g' : ℕ → EReal} {a a' : ℕ}
  (hx : ∀ b < 14336, x a b = x' a' b) (hr : ∀ b < 14336, r a b = r' a' b) (hg : ∀ b < 14336, g b = g' b)
include hx hr

theorem hN_row (b : ℕ) (hb : b < 14336) : hN x r a b = hN x' r' a' b := by
  unfold hN; rw [hx b hb, hr b hb]

theorem rsN_row : rsN x r a = rsN x' r' a' := by
  unfold rsN
  rw [Finset.sum_congr rfl fun n _ => Finset.sum_congr rfl fun l _ => by
    rw [hN_row hx hr (128 * n.val + l.val) (by have := n.isLt; have := l.isLt; omega)]]

include hg

theorem yN_row (b : ℕ) (hb : b < 14336) : yN x r g a b = yN x' r' g' a' b := by
  unfold yN; rw [hN_row hx hr b hb, rsN_row hx hr, hg b hb]

theorem blkN_row (n : ℕ) (hn : n < 112) : blkN x r g a n = blkN x' r' g' a' n :=
  funext fun l => yN_row hx hr hg _ (by have := l.isLt; omega)

theorem codeN_row (b : ℕ) (hb : b < 14336) : codeN x r g a b = codeN x' r' g' a' b := by
  unfold codeN; rw [yN_row hx hr hg b hb, blkN_row hx hr hg (b / 128) (by omega)]

theorem scaleN_row (n : ℕ) (hn : n < 112) : scaleN x r g a n = scaleN x' r' g' a' n := by
  unfold scaleN; rw [blkN_row hx hr hg n hn]
end

end Cert.Quant

namespace Cert.KernelIdeal.Exact

open Cert.KernelIdeal Cert.KernelIdeal.Gen Cert.Quant
open Idealize.ShloMosaic Idealize.ShloMosaic.TcCoe Idealize.ShloMosaic.Tactic

variable (m : (ℓ : Loc nD τ sig) → Buf (Elt Ideal) ℓ)

/-- The region's first array, -/
def X (c : Dev nD) : ℕ → ℕ → EReal := ext2 (m := 10240) (n := 14336) (V m c main_v0)
/-- its second -/
def R (c : Dev nD) : ℕ → ℕ → EReal := ext2 (m := 10240) (n := 14336) (V m c main_v1)
/-- and the gains. -/
def Gn (c : Dev nD) : ℕ → EReal := ext2 (m := 1) (n := 14336) (V m c main_v3) 0

/-- The residual sum, -/
def G3 (c : Dev nD) : S10240x14336.Idx → EReal := fun y => hN (X m c) (R m c) (y 0).val (y 1).val
/-- the codes -/
def G4 (c : Dev nD) : S10240x14336.Idx → EReal := fun y => codeN (X m c) (R m c) (Gn m c) (y 0).val (y 1).val
/-- and the scales. -/
def G5 (c : Dev nD) : S10240x112.Idx → EReal := fun y => scaleN (X m c) (R m c) (Gn m c) (y 0).val (y 1).val

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![0, 0] := (by decide +kernel : ∀ t : Fin grid0.N, win0_2.index t = ![0, 0])
theorem e3 : ∀ t : Fin cfg0.N, win0_3.index t = ![t.val, 0] := (by decide +kernel : ∀ t : Fin grid0.N, win0_3.index t = ![t.val, 0])
theorem e4 : ∀ t : Fin cfg0.N, win0_4.index t = ![t.val, 0] := (by decide +kernel : ∀ t : Fin grid0.N, win0_4.index t = ![t.val, 0])
theorem e5 : ∀ t : Fin cfg0.N, win0_5.index t = ![t.val, 0] := (by decide +kernel : ∀ t : Fin grid0.N, win0_5.index t = ![t.val, 0])

theorem N_eq : cfg0.N = 160 := by decide +kernel

theorem xB_eq (c : Dev nD) (t : Fin cfg0.N) (a : ℕ) (ha : a < 64) (b : ℕ) (hb : b < 14336) : xB m c t a b = X m c (64 * t.val + a) b := by
  have ht : t.val < 160 := lt_of_lt_of_eq t.isLt N_eq
  unfold xB X ext2
  rw [dif_pos ⟨ha, hb⟩, dif_pos ⟨by omega, hb⟩]
  blk_simp [iblk]
  refine congrArg (V m c main_v0) ?_
  blk_ext [e0]

theorem rB_eq (c : Dev nD) (t : Fin cfg0.N) (a : ℕ) (ha : a < 64) (b : ℕ) (hb : b < 14336) : rB m c t a b = R m c (64 * t.val + a) b := by
  have ht : t.val < 160 := lt_of_lt_of_eq t.isLt N_eq
  unfold rB R ext2
  rw [dif_pos ⟨ha, hb⟩, dif_pos ⟨by omega, hb⟩]
  blk_simp [iblk]
  refine congrArg (V m c main_v1) ?_
  blk_ext [e1]

theorem gB_eq (c : Dev nD) (t : Fin cfg0.N) (b : ℕ) (hb : b < 14336) : gB m c t b = Gn m c b := by
  unfold gB Gn ext2
  rw [dif_pos ⟨by omega, hb⟩, dif_pos ⟨by omega, hb⟩]
  blk_simp [iblk]
  refine congrArg (V m c main_v3) ?_
  blk_ext [e2]

theorem tile3 (c : Dev nD) (t : Fin cfg0.N) (y : S64x14336.Idx) (z : S10240x14336.Idx) (hz0 : (z 0).val = 64 * t.val + (y 0).val) (hz1 : (z 1).val = (y 1).val) :
    T3 m c t y = G3 m c z := by
  have h0 : (y 0).val < 64 := (y 0).isLt
  have h1 : (y 1).val < 14336 := (y 1).isLt
  unfold T3 G3
  rw [hz0, hz1]
  exact (hN_row (fun b hb => xB_eq m c t _ h0 b hb) (fun b hb => rB_eq m c t _ h0 b hb) _ h1)

theorem at3 (t : Fin cfg0.N) (y : ((cfg0.win 3).xblock (cfg0.grid.coords t)).Idx) : ((((cfg0.win 3).blk t).view.emb y : S10240x14336.Idx) 0).val = 64 * t.val + (y 0).val
    ∧ ((((cfg0.win 3).blk t).view.emb y : S10240x14336.Idx) 1).val = (y 1).val := by
  constructor
  · blk_simp [e3]
    show t.val * 64 + _ = _
    omega
  · blk_simp [e3]

theorem cover3 (i : S10240x14336.Idx) : ∃ t : Fin cfg0.N, (cfg0.win 3).flush t = true ∧ i ∈ ((cfg0.win 3).blk t).view.set := by
  have h0 : (i 0).val < 10240 := (i 0).isLt
  have h1 : (i 1).val < 14336 := (i 1).isLt
  obtain ⟨t, ht⟩ : ∃ t : Fin cfg0.N, t.val = (i 0).val / 64 := ⟨⟨(i 0).val / 64, lt_of_lt_of_eq (show (i 0).val / 64 < 160 by omega) N_eq.symm⟩, rfl⟩
  obtain ⟨y, hy0, hy1⟩ : ∃ y : S64x14336.Idx, (y 0).val = (i 0).val % 64 ∧ (y 1).val = (i 1).val :=
    ⟨ix2 (n0 := 64) (n1 := 14336) ⟨(i 0).val % 64, by omega⟩ ⟨(i 1).val, h1⟩, rfl, rfl⟩
  refine ⟨t, flush0_3 t, ?_⟩
  have e : ((cfg0.win 3).blk t).view.emb y = i := by
    funext a
    match a with
    | ⟨0, _⟩ => exact Fin.ext ((at3 t y).1.trans (by rw [hy0, ht]; exact Nat.div_add_mod _ 64))
    | ⟨1, _⟩ => exact Fin.ext ((at3 t y).2.trans hy1)
  exact e ▸ View.emb_mem_set _ y

theorem wrote3 (c : Dev nD) (t : Fin cfg0.N) (y : ((cfg0.win 3).xblock (cfg0.grid.coords t)).Idx) :
    _root_.cast (congrArg (Elt Ideal) ((cfg0.win 3).blk t).view.elt_eq.symm) ((dats m 0 c).after 3 t ((cfg0.win 3).xinj (cfg0.grid.coords t) y))
      = G3 m c (((cfg0.win 3).blk t).view.emb y) := by
  rw [after0_3]
  exact tile3 m c t y (((cfg0.win 3).blk t).view.emb y) (at3 t y).1 (at3 t y).2

theorem final3 (c : Dev nD) : (dats m 0 c).arrAt 3 cfg0.N = G3 m c :=
  (dats m 0 c).arrAt_eq_of_emb 3 (G3 m c) (fun t _ y => wrote3 m c t y) cover3

theorem tile4 (c : Dev nD) (t : Fin cfg0.N) (y : S64x14336.Idx) (z : S10240x14336.Idx) (hz0 : (z 0).val = 64 * t.val + (y 0).val) (hz1 : (z 1).val = (y 1).val) :
    T4 m c t y = G4 m c z := by
  have h0 : (y 0).val < 64 := (y 0).isLt
  have h1 : (y 1).val < 14336 := (y 1).isLt
  unfold T4 G4
  rw [hz0, hz1]
  exact (codeN_row (fun b hb => xB_eq m c t _ h0 b hb) (fun b hb => rB_eq m c t _ h0 b hb) (gB_eq m c t) _ h1)

theorem at4 (t : Fin cfg0.N) (y : ((cfg0.win 4).xblock (cfg0.grid.coords t)).Idx) : ((((cfg0.win 4).blk t).view.emb y : S10240x14336.Idx) 0).val = 64 * t.val + (y 0).val
    ∧ ((((cfg0.win 4).blk t).view.emb y : S10240x14336.Idx) 1).val = (y 1).val := by
  constructor
  · blk_simp [e4]
    show t.val * 64 + _ = _
    omega
  · blk_simp [e4]

theorem cover4 (i : S10240x14336.Idx) : ∃ t : Fin cfg0.N, (cfg0.win 4).flush t = true ∧ i ∈ ((cfg0.win 4).blk t).view.set := by
  have h0 : (i 0).val < 10240 := (i 0).isLt
  have h1 : (i 1).val < 14336 := (i 1).isLt
  obtain ⟨t, ht⟩ : ∃ t : Fin cfg0.N, t.val = (i 0).val / 64 := ⟨⟨(i 0).val / 64, lt_of_lt_of_eq (show (i 0).val / 64 < 160 by omega) N_eq.symm⟩, rfl⟩
  obtain ⟨y, hy0, hy1⟩ : ∃ y : S64x14336.Idx, (y 0).val = (i 0).val % 64 ∧ (y 1).val = (i 1).val :=
    ⟨ix2 (n0 := 64) (n1 := 14336) ⟨(i 0).val % 64, by omega⟩ ⟨(i 1).val, h1⟩, rfl, rfl⟩
  refine ⟨t, flush0_4 t, ?_⟩
  have e : ((cfg0.win 4).blk t).view.emb y = i := by
    funext a
    match a with
    | ⟨0, _⟩ => exact Fin.ext ((at4 t y).1.trans (by rw [hy0, ht]; exact Nat.div_add_mod _ 64))
    | ⟨1, _⟩ => exact Fin.ext ((at4 t y).2.trans hy1)
  exact e ▸ View.emb_mem_set _ y

theorem wrote4 (c : Dev nD) (t : Fin cfg0.N) (y : ((cfg0.win 4).xblock (cfg0.grid.coords t)).Idx) :
    _root_.cast (congrArg (Elt Ideal) ((cfg0.win 4).blk t).view.elt_eq.symm) ((dats m 0 c).after 4 t ((cfg0.win 4).xinj (cfg0.grid.coords t) y))
      = G4 m c (((cfg0.win 4).blk t).view.emb y) := by
  rw [after0_4]
  exact tile4 m c t y (((cfg0.win 4).blk t).view.emb y) (at4 t y).1 (at4 t y).2

theorem final4 (c : Dev nD) : (dats m 0 c).arrAt 4 cfg0.N = G4 m c :=
  (dats m 0 c).arrAt_eq_of_emb 4 (G4 m c) (fun t _ y => wrote4 m c t y) cover4

theorem tile5 (c : Dev nD) (t : Fin cfg0.N) (y : S64x112.Idx) (z : S10240x112.Idx) (hz0 : (z 0).val = 64 * t.val + (y 0).val) (hz1 : (z 1).val = (y 1).val) :
    T5 m c t y = G5 m c z := by
  have h0 : (y 0).val < 64 := (y 0).isLt
  have h1 : (y 1).val < 112 := (y 1).isLt
  unfold T5 G5
  rw [hz0, hz1]
  exact (scaleN_row (fun b hb => xB_eq m c t _ h0 b hb) (fun b hb => rB_eq m c t _ h0 b hb) (gB_eq m c t) _ h1)

theorem at5 (t : Fin cfg0.N) (y : ((cfg0.win 5).xblock (cfg0.grid.coords t)).Idx) : ((((cfg0.win 5).blk t).view.emb y : S10240x112.Idx) 0).val = 64 * t.val + (y 0).val
    ∧ ((((cfg0.win 5).blk t).view.emb y : S10240x112.Idx) 1).val = (y 1).val := by
  constructor
  · blk_simp [e5]
    show t.val * 64 + _ = _
    omega
  · blk_simp [e5]

theorem cover5 (i : S10240x112.Idx) : ∃ t : Fin cfg0.N, (cfg0.win 5).flush t = true ∧ i ∈ ((cfg0.win 5).blk t).view.set := by
  have h0 : (i 0).val < 10240 := (i 0).isLt
  have h1 : (i 1).val < 112 := (i 1).isLt
  obtain ⟨t, ht⟩ : ∃ t : Fin cfg0.N, t.val = (i 0).val / 64 := ⟨⟨(i 0).val / 64, lt_of_lt_of_eq (show (i 0).val / 64 < 160 by omega) N_eq.symm⟩, rfl⟩
  obtain ⟨y, hy0, hy1⟩ : ∃ y : S64x112.Idx, (y 0).val = (i 0).val % 64 ∧ (y 1).val = (i 1).val :=
    ⟨ix2 (n0 := 64) (n1 := 112) ⟨(i 0).val % 64, by omega⟩ ⟨(i 1).val, h1⟩, rfl, rfl⟩
  refine ⟨t, flush0_5 t, ?_⟩
  have e : ((cfg0.win 5).blk t).view.emb y = i := by
    funext a
    match a with
    | ⟨0, _⟩ => exact Fin.ext ((at5 t y).1.trans (by rw [hy0, ht]; exact Nat.div_add_mod _ 64))
    | ⟨1, _⟩ => exact Fin.ext ((at5 t y).2.trans hy1)
  exact e ▸ View.emb_mem_set _ y

theorem placed5 (t : Fin cfg0.N) (T : S64x112.Idx → EReal) (G : S10240x112.Idx → EReal)
    (h : ∀ (y : S64x112.Idx) (z : S10240x112.Idx), (z 0).val = 64 * t.val + (y 0).val → (z 1).val = (y 1).val → T y = G z)
    (y : ((cfg0.win 5).xblock (cfg0.grid.coords t)).Idx) :
    _root_.cast (congrArg (Elt Ideal) ((cfg0.win 5).blk t).view.elt_eq.symm) (T ((cfg0.win 5).xinj (cfg0.grid.coords t) y))
      = G (((cfg0.win 5).blk t).view.emb y) :=
  h y (((cfg0.win 5).blk t).view.emb y) (at5 t y).1 (at5 t y).2

theorem wrote5 (c : Dev nD) (t : Fin cfg0.N) (y : ((cfg0.win 5).xblock (cfg0.grid.coords t)).Idx) :
    _root_.cast (congrArg (Elt Ideal) ((cfg0.win 5).blk t).view.elt_eq.symm) ((dats m 0 c).after 5 t ((cfg0.win 5).xinj (cfg0.grid.coords t) y))
      = G5 m c (((cfg0.win 5).blk t).view.emb y) := by
  rw [after0_5]
  exact placed5 t (T5 m c t) (G5 m c) (tile5 m c t) y

theorem final5 (c : Dev nD) : (dats m 0 c).arrAt 5 cfg0.N = G5 m c :=
  (dats m 0 c).arrAt_eq_of_emb 5 (G5 m c) (fun t _ y => wrote5 m c t y) cover5

end Cert.KernelIdeal.Exact

end
-- ==== Proof.Args.lean ====
/-
  The programs' arguments as functions of naturals, and the reshapes both programs read them through.
-/
module

public import proofs.«01_k».proof.Proof.Lays

@[expose] public section

noncomputable section

namespace Cert.Quant

open Idealize.ShloMosaic

/-- An activation array as its 10240 rows of 14336 columns, zero outside. -/
def xA (A : (⟨3, ![5, 2048, 14336]⟩ : Shape).Idx → EReal) (a b : ℕ) : EReal :=
  if h : a < 10240 ∧ b < 14336 then A (ix3 ⟨a / 2048, by omega⟩ ⟨a % 2048, by omega⟩ ⟨b, h.2⟩) else 0
/-- The gains, zero outside. -/
def gA (A : (⟨1, ![14336]⟩ : Shape).Idx → EReal) (b : ℕ) : EReal := if h : b < 14336 then A (ix1 ⟨b, h⟩) else 0

theorem cast_rows (A : (⟨3, ![5, 2048, 14336]⟩ : Shape).Idx → EReal) (hc : (⟨3, ![5, 2048, 14336]⟩ : Shape).ShapeCasts ⟨2, ![10240, 14336]⟩)
    (a : Fin 10240) (b : Fin 14336) : shapeCast ⟨2, ![10240, 14336]⟩ A hc (ix2 a b) = xA A a.val b.val := by
  have ha := a.isLt
  have hb := b.isLt
  unfold xA
  rw [dif_pos ⟨ha, hb⟩]
  refine shapeCast_apply A hc _ _ ?_
  rw [Shape.rowMajor_val_three, Shape.rowMajor_val_two]
  show (a.val / 2048 * 2048 + a.val % 2048) * 14336 + b.val = a.val * 14336 + b.val
  omega

theorem cast_blocks (A : (⟨3, ![5, 2048, 14336]⟩ : Shape).Idx → EReal) (hc : (⟨3, ![5, 2048, 14336]⟩ : Shape).ShapeCasts ⟨3, ![10240, 112, 128]⟩)
    (a : Fin 10240) (n : Fin 112) (l : Fin 128) : shapeCast ⟨3, ![10240, 112, 128]⟩ A hc (ix3 a n l) = xA A a.val (128 * n.val + l.val) := by
  have ha := a.isLt
  have hn := n.isLt
  have hl := l.isLt
  unfold xA
  rw [dif_pos ⟨ha, by omega⟩]
  refine shapeCast_apply A hc _ _ ?_
  rw [Shape.rowMajor_val_three, Shape.rowMajor_val_three]
  show (a.val / 2048 * 2048 + a.val % 2048) * 14336 + (128 * n.val + l.val) = (a.val * 112 + n.val) * 128 + l.val
  omega

theorem cast_gains (A : (⟨1, ![14336]⟩ : Shape).Idx → EReal) (hc : (⟨1, ![14336]⟩ : Shape).ShapeCasts ⟨2, ![1, 14336]⟩)
    (b : Fin 14336) : shapeCast ⟨2, ![1, 14336]⟩ A hc (ix2 (0 : Fin 1) b) = gA A b.val := by
  have hb := b.isLt
  unfold gA
  rw [dif_pos hb]
  refine shapeCast_apply A hc _ _ ?_
  rw [Shape.rowMajor_val_one, Shape.rowMajor_val_two]
  show b.val = 0 * 14336 + b.val
  omega

theorem cast_gain_blocks (A : (⟨1, ![14336]⟩ : Shape).Idx → EReal) (hc : (⟨1, ![14336]⟩ : Shape).ShapeCasts ⟨3, ![1, 112, 128]⟩)
    (n : Fin 112) (l : Fin 128) : shapeCast ⟨3, ![1, 112, 128]⟩ A hc (ix3 (0 : Fin 1) n l) = gA A (128 * n.val + l.val) := by
  have hn := n.isLt
  have hl := l.isLt
  unfold gA
  rw [dif_pos (by omega)]
  refine shapeCast_apply A hc _ _ ?_
  rw [Shape.rowMajor_val_one, Shape.rowMajor_val_three]
  show 128 * n.val + l.val = (0 * 112 + n.val) * 128 + l.val
  omega

end Cert.Quant

end
-- ==== Proof.ArgsKernelIdeal.lean ====
/-
  The arrays the kernel's region starts from, as its arguments.
-/
module

public import proofs.«01_k».proof.Proof.ArraysKernelIdeal
public import proofs.«01_k».proof.Proof.Args

@[expose] public section

set_option maxRecDepth 16384

noncomputable section

namespace Cert.Quant

open Idealize.ShloMosaic

theorem ext_rows (A : (⟨3, ![5, 2048, 14336]⟩ : Shape).Idx → EReal) (hc : (⟨3, ![5, 2048, 14336]⟩ : Shape).ShapeCasts ⟨2, ![10240, 14336]⟩) :
    ext2 (m := 10240) (n := 14336) (shapeCast ⟨2, ![10240, 14336]⟩ A hc) = xA A := by
  funext a b
  unfold ext2
  by_cases h : a < 10240 ∧ b < 14336
  · rw [dif_pos h]
    exact cast_rows A hc ⟨a, h.1⟩ ⟨b, h.2⟩
  · rw [dif_neg h]
    unfold xA
    rw [dif_neg h]

theorem ext_gains (A : (⟨1, ![14336]⟩ : Shape).Idx → EReal) (hc : (⟨1, ![14336]⟩ : Shape).ShapeCasts ⟨2, ![1, 14336]⟩) :
    ext2 (m := 1) (n := 14336) (shapeCast ⟨2, ![1, 14336]⟩ A hc) 0 = gA A := by
  funext b
  unfold ext2
  by_cases h : b < 14336
  · rw [dif_pos ⟨Nat.zero_lt_one, h⟩]
    exact cast_gains A hc ⟨b, h⟩
  · rw [dif_neg fun h' => h h'.2]
    unfold gA
    rw [dif_neg h]

end Cert.Quant

namespace Cert.KernelIdeal.Exact

open Cert.KernelIdeal Cert.KernelIdeal.Gen Cert.Quant
open Idealize.ShloMosaic Idealize.ShloMosaic.TcCoe Idealize.ShloMosaic.Tactic

variable (m : (ℓ : Loc nD τ sig) → Buf (Elt Ideal) ℓ)

theorem V_v0 (c : Dev nD) : V m c main_v0 = shapeCast S10240x14336 (m ((c : Thread nD τ).loc main_arg0)) shapeCasts_S5x2048x14336_S10240x14336 := by
  unfold_abbrev_sides
  after_results
  rfl

theorem V_v1 (c : Dev nD) : V m c main_v1 = shapeCast S10240x14336 (m ((c : Thread nD τ).loc main_arg1)) shapeCasts_S5x2048x14336_S10240x14336 := by
  unfold_abbrev_sides
  after_results
  rfl

theorem V_v3 (c : Dev nD) : V m c main_v3 = shapeCast (α := EReal) S1x14336 (m ((c : Thread nD τ).loc main_arg2)) shapeCasts_S14336_S1x14336 := by
  unfold_abbrev_sides
  after_results
  rfl

theorem X_eq (c : Dev nD) : X m c = xA (m ((c : Thread nD τ).loc main_arg0)) := by
  unfold X
  rw [V_v0]
  exact ext_rows _ _

theorem R_eq (c : Dev nD) : R m c = xA (m ((c : Thread nD τ).loc main_arg1)) := by
  unfold R
  rw [V_v1]
  exact ext_rows _ _

theorem Gn_eq (c : Dev nD) : Gn m c = gA (m ((c : Thread nD τ).loc main_arg2)) := by
  unfold Gn
  rw [V_v3]
  exact ext_gains _ _

end Cert.KernelIdeal.Exact

end
-- ==== Proof.RefValue.lean ====
/-
  What the reference's body computes over the extended reals: each of its three results, element by element, as the mathematics on
  functions of two naturals.
-/
module

public import proofs.«01_k».proof.Proof.Args
public import proofs.«01_k».proof.Proof.Gen.ReferenceIdeal.Value

@[expose] public section

set_option maxRecDepth 16384

noncomputable section

namespace Cert.Quant

open Idealize.ShloMosaic

section
variable (x r : ℕ → ℕ → EReal) (g : ℕ → EReal)
/-- The reference's code -/
def codeR (a b : ℕ) : EReal := clampE (yN x r g a b * Ideal.exp2 (Ideal.ofBits .f32 0x00000000#32 - eR (amax (blkN x r g a (b / 128)))))
/-- and its scale. -/
def scaleR (a n : ℕ) : EReal := Ideal.exp2 (eR (amax (blkN x r g a n)))
end

end Cert.Quant

namespace Cert.ReferenceIdeal.Reads

open Cert.ReferenceIdeal Cert.ReferenceIdeal.Gen Cert.ReferenceIdeal.Value Cert.Quant
open Idealize.ShloMosaic

variable (P0 P1 : FVec Ideal S10240x112x128 .bf16) (P2 : FVec Ideal S1x112x128 .bf16)

/-- The residual sum, -/
abbrev hfV : FVec Ideal S10240x112x128 .f32 :=
  extf .f32 (truncf .bf16 (addf (extf .f32 (shapeCast S10240x112x128 P0 shapeCasts_S10240x112x128_S10240x112x128) bitsLt_bf16_f32) (extf .f32 (shapeCast S10240x112x128 P1 shapeCasts_S10240x112x128_S10240x112x128) bitsLt_bf16_f32)) bitsLt_bf16_f32) bitsLt_bf16_f32
/-- a row's sum of squares, -/
abbrev sumV : FVec Ideal S10240 .f32 := multiReduction .add [1, 2] S10240 (mulf (hfV P0 P1) (hfV P0 P1)) 0x00000000#32 reduces_S10240x112x128_S10240 (.inl rfl) rfl
/-- the normalised values -/
abbrev yV : FVec Ideal S10240x112x128 .f32 :=
  mulf (mulf (hfV P0 P1) (broadcastTo S10240x112x128 (rsqrt (addf (divf (shapeCast S10240x1x1 (sumV P0 P1) shapeCasts_S10240_S10240x1x1) (broadcast S10240x1x1 (Scalar.ofBits .f32 0x46600000#32))) (broadcast S10240x1x1 (Scalar.ofBits .f32 0x358637BD#32)))) broadcasts_S10240x1x1_S10240x112x128)) (broadcastTo S10240x112x128 (extf .f32 (shapeCast S1x112x128 P2 shapeCasts_S1x112x128_S1x112x128) bitsLt_bf16_f32) broadcasts_S1x112x128_S10240x112x128)
/-- and a block's largest magnitude. -/
abbrev maxV : FVec Ideal S10240x112 .f32 := multiReduction .maximumf [2] S10240x112 (absf (yV P0 P1 P2)) 0xFF800000#32 reduces_S10240x112x128_S10240x112 (.inl rfl) rfl

variable {x r : ℕ → ℕ → EReal} {g : ℕ → EReal}
  (h0 : ∀ a n l, P0 (ix3 a n l) = x a.val (128 * n.val + l.val)) (h1 : ∀ a n l, P1 (ix3 a n l) = r a.val (128 * n.val + l.val))
include h0 h1

theorem hfV_apply (a : Fin 10240) (n : Fin 112) (l : Fin 128) : hfV P0 P1 (ix3 a n l) = hN x r a.val (128 * n.val + l.val) := by
  unfold hN
  rw [← h0, ← h1]
  pointwise [hfV]

theorem sumV_apply (a : Fin 10240) :
    sumV P0 P1 (ix1 a) = ∑ n : Fin 112, ∑ l : Fin 128, hN x r a.val (128 * n.val + l.val) * hN x r a.val (128 * n.val + l.val) := by
  pointwise [h0, h1]
  rfl

variable (h2 : ∀ n l, P2 (ix3 (0 : Fin 1) n l) = g (128 * n.val + l.val))
include h2

theorem yV_apply (a : Fin 10240) (n : Fin 112) (l : Fin 128) : yV P0 P1 P2 (ix3 a n l) = yN x r g a.val (128 * n.val + l.val) := by
  have h := hfV_apply P0 P1 h0 h1
  have hs := sumV_apply P0 P1 h0 h1
  unfold yN rsN
  rw [← hs, ← h, ← h2]
  unfold yV
  generalize sumV P0 P1 = S
  generalize hfV P0 P1 = H
  pointwise

theorem maxV_apply (a : Fin 10240) (n : Fin 112) : maxV P0 P1 P2 (ix2 a n) = amax (blkN x r g a.val n.val) := by
  have h := yV_apply P0 P1 P2 h0 h1 h2
  unfold maxV
  generalize yV P0 P1 P2 = Y at h
  pointwise [h]
  rfl

/-! ## The three results, element by element -/

omit h0 h1 h2 in
theorem select_olt (u v s t : EReal) : Scalar.select (FloatOps.cmpf (F := Ideal) (φ := .f32) .olt u v) s t = if u < v then s else t := by
  show (if Ideal.cmp .olt u v = 1#1 then s else t) = _
  unfold Ideal.cmp
  by_cases h : u < v
  · simp [h]
  · simp [h]

omit h0 h1 h2 in
theorem ln2_eq : Named.named (F := Ideal) Cert.ReferenceIdeal.κ "ln2" (φ := .f32) 0x3F317218#32 = ((Real.log 2 : ℝ) : EReal) :=
  IdealRules.named_const.ideal_named_scalar _ _ _ _ rfl

/-- The exponent of a block of largest magnitude `M`, as printed. -/
abbrev expV (M : EReal) : EReal :=
  Scalar.select (FloatOps.cmpf (F := Ideal) (φ := .f32) .olt (FloatOps.mulf (F := Ideal) (φ := .f32) M (Scalar.ofBits .f32 0x3B124925#32)) (Scalar.ofBits .f32 0x00800000#32)) (Scalar.ofBits (F := Ideal) .f32 0x00000000#32)
    (FloatOps.addf (F := Ideal) (φ := .f32) (FloatOps.floor (F := Ideal) (φ := .f32) (FloatOps.divf (F := Ideal) (φ := .f32) (FloatOps.log (F := Ideal) (φ := .f32) (FloatOps.mulf (F := Ideal) (φ := .f32) M (Scalar.ofBits .f32 0x3B124925#32))) (Named.named κ "ln2" 0x3F317218#32))) (Scalar.ofBits .f32 0x3F800000#32))

omit h0 h1 h2 in
theorem expV_eq (M : EReal) : expV M = eR M := by
  unfold expV
  rw [select_olt, ln2_eq]
  rfl

omit h0 h1 h2 in
theorem ix3_eq (y : S10240x14336.Idx) (hn : (y 1).val / 128 < 112) (hl : (y 1).val % 128 < 128) :
    ix3_0 y = ix3 (n0 := 10240) (n1 := 112) (n2 := 128) ⟨(y 0).val, (y 0).isLt⟩ ⟨(y 1).val / 128, hn⟩ ⟨(y 1).val % 128, hl⟩ := by
  funext a
  match a with
  | ⟨0, _⟩ => rfl
  | ⟨1, _⟩ => rfl
  | ⟨2, _⟩ => rfl

omit h0 h1 h2 in
theorem ix2_eq (y : S10240x14336.Idx) (hn : (y 1).val / 128 < 112) :
    ix4_4 y = ix2 (n0 := 10240) (n1 := 112) ⟨(y 0).val, (y 0).isLt⟩ ⟨(y 1).val / 128, hn⟩ := by
  funext a
  match a with
  | ⟨0, _⟩ => rfl
  | ⟨1, _⟩ => rfl

omit h0 h1 h2 in
theorem ix1_eq (y : S10240x14336.Idx) : ix4_2 y = ix1 (n0 := 10240) ⟨(y 0).val, (y 0).isLt⟩ := by
  funext a
  match a with
  | ⟨0, _⟩ => rfl

omit h0 h1 h2 in
theorem ixg_eq (y : S10240x14336.Idx) (hn : (y 1).val / 128 < 112) (hl : (y 1).val % 128 < 128) :
    ix4_3 y = ix3 (n0 := 1) (n1 := 112) (n2 := 128) (0 : Fin 1) ⟨(y 1).val / 128, hn⟩ ⟨(y 1).val % 128, hl⟩ := by
  funext a
  match a with
  | ⟨0, _⟩ => rfl
  | ⟨1, _⟩ => rfl
  | ⟨2, _⟩ => rfl

omit h0 h1 h2 in
theorem ix5_eq (y : S10240x112.Idx) : ix5_0 y = ix2 (n0 := 10240) (n1 := 112) ⟨(y 0).val, (y 0).isLt⟩ ⟨(y 1).val, (y 1).isLt⟩ := by
  funext a
  match a with
  | ⟨0, _⟩ => rfl
  | ⟨1, _⟩ => rfl

omit h0 h1 h2 in
theorem E3_eq (y : S10240x14336.Idx) : E3 (F := Ideal) P0 P1 y = P0 (ix3_0 y) + P1 (ix3_0 y) := rfl

omit h0 h1 h2 in
theorem E4_eq (y : S10240x14336.Idx) : E4 (F := Ideal) P0 P1 P2 y
    = clampE ((P0 (ix3_0 y) + P1 (ix3_0 y)) * Ideal.rsqrt (Ideal.div (sumV P0 P1 (ix4_2 y)) (Ideal.ofBits .f32 0x46600000#32) + Ideal.ofBits .f32 0x358637BD#32)
        * P2 (ix4_3 y) * Ideal.exp2 (Ideal.ofBits .f32 0x00000000#32 - expV (maxV P0 P1 P2 (ix4_4 y)))) := rfl

omit h0 h1 h2 in
theorem E5_eq (y : S10240x112.Idx) : E5 (F := Ideal) P0 P1 P2 y = Ideal.exp2 (expV (maxV P0 P1 P2 (ix5_0 y))) := rfl

omit h2 in
theorem E3_apply (y : S10240x14336.Idx) : E3 (F := Ideal) P0 P1 y = hN x r (y 0).val (y 1).val := by
  have hb : (y 1).val < 14336 := (y 1).isLt
  have hn : (y 1).val / 128 < 112 := by omega
  have hl : (y 1).val % 128 < 128 := by omega
  rw [E3_eq, ix3_eq y hn hl, h0, h1]
  unfold hN
  rw [show 128 * ((y 1).val / 128) + (y 1).val % 128 = (y 1).val from Nat.div_add_mod _ _]

theorem E4_apply (y : S10240x14336.Idx) : E4 (F := Ideal) P0 P1 P2 y = codeR x r g (y 0).val (y 1).val := by
  have hb : (y 1).val < 14336 := (y 1).isLt
  have hn : (y 1).val / 128 < 112 := by omega
  have hl : (y 1).val % 128 < 128 := by omega
  rw [E4_eq, ix3_eq y hn hl, ix1_eq, ixg_eq y hn hl, ix2_eq y hn, h0, h1, h2, expV_eq, maxV_apply P0 P1 P2 h0 h1 h2, sumV_apply P0 P1 h0 h1]
  unfold codeR yN hN
  rw [show 128 * ((y 1).val / 128) + (y 1).val % 128 = (y 1).val from Nat.div_add_mod _ _]
  rfl

theorem E5_apply (y : S10240x112.Idx) : E5 (F := Ideal) P0 P1 P2 y = scaleR x r g (y 0).val (y 1).val := by
  rw [E5_eq, ix5_eq, expV_eq, maxV_apply P0 P1 P2 h0 h1 h2]
  rfl

end Cert.ReferenceIdeal.Reads

end
-- ==== Proof.ArraysReferenceIdeal.lean ====
/-
  The three arrays the reference ends with, over the extended reals: each as one function of its arguments.
-/
module

public import proofs.«01_k».proof.Proof.RefValue
public import Idealize.ShloMosaic.Lib.Pipeline.ValueKit

@[expose] public section

set_option maxRecDepth 16384

noncomputable section

namespace Cert.ReferenceIdeal.Reads

open Cert.ReferenceIdeal Cert.ReferenceIdeal.Gen Cert.ReferenceIdeal.Value Cert.Quant
open Idealize.ShloMosaic Idealize.ShloMosaic.TcCoe Idealize.ShloMosaic.Tactic

variable (m : (ℓ : Loc nD τ sig) → Buf (Elt Ideal) ℓ)

/-- The first argument, -/
abbrev X (c : Dev nD) : ℕ → ℕ → EReal := xA (m ((c : Thread nD τ).loc main_arg0))
/-- the second -/
abbrev R (c : Dev nD) : ℕ → ℕ → EReal := xA (m ((c : Thread nD τ).loc main_arg1))
/-- and the gains. -/
abbrev Gn (c : Dev nD) : ℕ → EReal := gA (m ((c : Thread nD τ).loc main_arg2))

/-- The residual sum, -/
def G3 (c : Dev nD) : S10240x14336.Idx → EReal := fun y => hN (X m c) (R m c) (y 0).val (y 1).val
/-- the codes -/
def G4 (c : Dev nD) : S10240x14336.Idx → EReal := fun y => codeR (X m c) (R m c) (Gn m c) (y 0).val (y 1).val
/-- and the scales. -/
def G5 (c : Dev nD) : S10240x112.Idx → EReal := fun y => scaleR (X m c) (R m c) (Gn m c) (y 0).val (y 1).val

theorem V_v0 (c : Dev nD) : V m c main_v0 = shapeCast S10240x112x128 (m ((c : Thread nD τ).loc main_arg0)) shapeCasts_S5x2048x14336_S10240x112x128 := by
  unfold_abbrev_sides
  after_results
  rfl

theorem V_v1 (c : Dev nD) : V m c main_v1 = shapeCast S10240x112x128 (m ((c : Thread nD τ).loc main_arg1)) shapeCasts_S5x2048x14336_S10240x112x128 := by
  unfold_abbrev_sides
  after_results
  rfl

theorem V_v2 (c : Dev nD) : V m c main_v2 = shapeCast S1x112x128 (m ((c : Thread nD τ).loc main_arg2)) shapeCasts_S14336_S1x112x128 := by
  unfold_abbrev_sides
  after_results
  rfl

theorem e0 : ∀ t : Fin cfg0.N, win0_0.index t = ![0, 0, 0] := (by decide +kernel : ∀ t : Fin grid0.N, win0_0.index t = ![0, 0, 0])
theorem e1 : ∀ t : Fin cfg0.N, win0_1.index t = ![0, 0, 0] := (by decide +kernel : ∀ t : Fin grid0.N, win0_1.index t = ![0, 0, 0])
theorem e2 : ∀ t : Fin cfg0.N, win0_2.index t = ![0, 0, 0] := (by decide +kernel : ∀ t : Fin grid0.N, win0_2.index t = ![0, 0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])

/-! ## What the body loads -/

theorem ld0 (c : Dev nD) (t : Fin cfg0.N) (a : Fin 10240) (n : Fin 112) (l : Fin 128) :
    View.ld (iblk m c 0 t) r0_0 (ix3 a n l) = X m c a.val (128 * n.val + l.val) := by
  refine Eq.trans ?_ (cast_blocks _ shapeCasts_S5x2048x14336_S10240x112x128 a n l)
  rw [← V_v0]
  blk_simp [iblk]
  refine congrArg (V m c main_v0) ?_
  blk_ext [e0]
  all_goals exact (Nat.zero_add _).trans (Nat.one_mul _)

theorem ld1 (c : Dev nD) (t : Fin cfg0.N) (a : Fin 10240) (n : Fin 112) (l : Fin 128) :
    View.ld (iblk m c 1 t) r0_0 (ix3 a n l) = R m c a.val (128 * n.val + l.val) := by
  refine Eq.trans ?_ (cast_blocks _ shapeCasts_S5x2048x14336_S10240x112x128 a n l)
  rw [← V_v1]
  blk_simp [iblk]
  refine congrArg (V m c main_v1) ?_
  blk_ext [e1]
  all_goals exact (Nat.zero_add _).trans (Nat.one_mul _)

theorem ld2 (c : Dev nD) (t : Fin cfg0.N) (n : Fin 112) (l : Fin 128) :
    View.ld (iblk m c 2 t) r0_1 (ix3 (0 : Fin 1) n l) = Gn m c (128 * n.val + l.val) := by
  refine Eq.trans ?_ (cast_gain_blocks _ shapeCasts_S14336_S1x112x128 n l)
  rw [← V_v2]
  blk_simp [iblk]
  refine congrArg (V m c main_v2) ?_
  blk_ext [e2]
  all_goals exact (Nat.zero_add _).trans (Nat.one_mul _)

/-! ## The arrays -/

theorem two_eq {p q : ℕ} (y z : (⟨2, ![p, q]⟩ : Shape).Idx) (h0 : (z 0).val = (y 0).val) (h1 : (z 1).val = (y 1).val) : z = y := by
  funext a
  match a with
  | ⟨0, _⟩ => exact Fin.ext h0
  | ⟨1, _⟩ => exact Fin.ext h1

theorem tile3 (c : Dev nD) (t : Fin cfg0.N) (y : S10240x14336.Idx) : out0_3 (iblk m c 0 t) (iblk m c 1 t) (iblk m c 2 t) y = G3 m c y := by
  unfold out0_3
  rw [canon3_eq]
  exact E3_apply _ _ (ld0 m c t) (ld1 m c t) y

theorem tile4 (c : Dev nD) (t : Fin cfg0.N) (y : S10240x14336.Idx) : out0_4 (iblk m c 0 t) (iblk m c 1 t) (iblk m c 2 t) y = G4 m c y := by
  unfold out0_4
  rw [canon4_eq]
  exact E4_apply _ _ _ (ld0 m c t) (ld1 m c t) (ld2 m c t) y

theorem tile5 (c : Dev nD) (t : Fin cfg0.N) (y : S10240x112.Idx) : out0_5 (iblk m c 0 t) (iblk m c 1 t) (iblk m c 2 t) y = G5 m c y := by
  unfold out0_5
  rw [canon5_eq]
  exact E5_apply _ _ _ (ld0 m c t) (ld1 m c t) (ld2 m c t) y

/-- The grid's one point. -/
def t0 : Fin cfg0.N := ⟨0, by decide +kernel⟩

theorem at3 (t : Fin cfg0.N) (y : S10240x14336.Idx) : (((cfg0.win 3).blk t).view.emb y : S10240x14336.Idx) = y := by
  refine two_eq y _ ?_ ?_
  · blk_simp [e3]
  · blk_simp [e3]

theorem place3 (t : Fin cfg0.N) (T G : S10240x14336.Idx → EReal) (h : ∀ y, T y = G y) (y : S10240x14336.Idx) :
    (_root_.cast (congrArg (Elt Ideal) ((cfg0.win 3).blk t).view.elt_eq.symm) (T y) : EReal) = G (((cfg0.win 3).blk t).view.emb y) := by
  rw [at3]
  exact h y

theorem wrote3 (c : Dev nD) (t : Fin cfg0.N) (y : ((cfg0.win 3).xblock (cfg0.grid.coords t)).Idx) :
    _root_.cast (congrArg (Elt Ideal) ((cfg0.win 3).blk t).view.elt_eq.symm) ((dats m 0 c).after 3 t ((cfg0.win 3).xinj (cfg0.grid.coords t) y))
      = G3 m c (((cfg0.win 3).blk t).view.emb y) := by
  rw [after0_3]
  exact place3 t (out0_3 (iblk m c 0 t) (iblk m c 1 t) (iblk m c 2 t)) (G3 m c) (tile3 m c t) y

theorem final3 (c : Dev nD) : (dats m 0 c).arrAt 3 cfg0.N = G3 m c :=
  (dats m 0 c).arrAt_eq_of_emb 3 (G3 m c) (fun t _ y => wrote3 m c t y)
    fun i => ⟨t0, by decide +kernel, at3 t0 i ▸ View.emb_mem_set _ i⟩

theorem at4 (t : Fin cfg0.N) (y : S10240x14336.Idx) : (((cfg0.win 4).blk t).view.emb y : S10240x14336.Idx) = y := by
  refine two_eq y _ ?_ ?_
  · blk_simp [e4]
  · blk_simp [e4]

theorem place4 (t : Fin cfg0.N) (T G : S10240x14336.Idx → EReal) (h : ∀ y, T y = G y) (y : S10240x14336.Idx) :
    (_root_.cast (congrArg (Elt Ideal) ((cfg0.win 4).blk t).view.elt_eq.symm) (T y) : EReal) = G (((cfg0.win 4).blk t).view.emb y) := by
  rw [at4]
  exact h y

theorem wrote4 (c : Dev nD) (t : Fin cfg0.N) (y : ((cfg0.win 4).xblock (cfg0.grid.coords t)).Idx) :
    _root_.cast (congrArg (Elt Ideal) ((cfg0.win 4).blk t).view.elt_eq.symm) ((dats m 0 c).after 4 t ((cfg0.win 4).xinj (cfg0.grid.coords t) y))
      = G4 m c (((cfg0.win 4).blk t).view.emb y) := by
  rw [after0_4]
  exact place4 t (out0_4 (iblk m c 0 t) (iblk m c 1 t) (iblk m c 2 t)) (G4 m c) (tile4 m c t) y

theorem final4 (c : Dev nD) : (dats m 0 c).arrAt 4 cfg0.N = G4 m c :=
  (dats m 0 c).arrAt_eq_of_emb 4 (G4 m c) (fun t _ y => wrote4 m c t y)
    fun i => ⟨t0, by decide +kernel, at4 t0 i ▸ View.emb_mem_set _ i⟩

theorem at5 (t : Fin cfg0.N) (y : S10240x112.Idx) : (((cfg0.win 5).blk t).view.emb y : S10240x112.Idx) = y := by
  refine two_eq y _ ?_ ?_
  · blk_simp [e5]
  · blk_simp [e5]

theorem place5 (t : Fin cfg0.N) (T G : S10240x112.Idx → EReal) (h : ∀ y, T y = G y) (y : S10240x112.Idx) :
    (_root_.cast (congrArg (Elt Ideal) ((cfg0.win 5).blk t).view.elt_eq.symm) (T y) : EReal) = G (((cfg0.win 5).blk t).view.emb y) := by
  rw [at5]
  exact h y

theorem wrote5 (c : Dev nD) (t : Fin cfg0.N) (y : ((cfg0.win 5).xblock (cfg0.grid.coords t)).Idx) :
    _root_.cast (congrArg (Elt Ideal) ((cfg0.win 5).blk t).view.elt_eq.symm) ((dats m 0 c).after 5 t ((cfg0.win 5).xinj (cfg0.grid.coords t) y))
      = G5 m c (((cfg0.win 5).blk t).view.emb y) := by
  rw [after0_5]
  exact place5 t (out0_5 (iblk m c 0 t) (iblk m c 1 t) (iblk m c 2 t)) (G5 m c) (tile5 m c t) y

theorem final5 (c : Dev nD) : (dats m 0 c).arrAt 5 cfg0.N = G5 m c :=
  (dats m 0 c).arrAt_eq_of_emb 5 (G5 m c) (fun t _ y => wrote5 m c t y)
    fun i => ⟨t0, by decide +kernel, at5 t0 i ▸ View.emb_mem_set _ i⟩

end Cert.ReferenceIdeal.Reads

end
-- ==== Proof.Combine.lean ====
/-
  Where the kernel's integer arithmetic and the reference's real arithmetic agree: every row whose gains are at most 2 ^ 127 in
  magnitude. And the precondition read as that bound.
-/
module

public import proofs.«01_k».proof.Proof.RefValue
public import proofs.«01_k».proof.Pre_gains_below_2_127
public import Idealize.ShloMosaic.Lib.ReduceAll

@[expose] public section

noncomputable section

namespace Cert.Quant

open Idealize.ShloMosaic

/-- Every gain is a real of magnitude at most 2 ^ 127. -/
def Bounded (g : ℕ → EReal) : Prop := ∀ b < 14336, ∃ q : ℝ, |q| ≤ 170141183460469231731687303715884105728 ∧ g b = (q : EReal)

section
variable {x r : ℕ → ℕ → EReal} {g : ℕ → EReal} (hg : Bounded g) (a : ℕ)
include hg

theorem blk_bound (n : ℕ) (hn : n < 112) (l : Fin 128) :
    ∃ t q : ℝ, |t| ≤ 120 ∧ |q| ≤ 170141183460469231731687303715884105728 ∧ blkN x r g a n l = (t : EReal) * (q : EReal) := by
  obtain ⟨t, ht, e⟩ := row_bound (fun p : Fin 112 × Fin 128 => hN x r a (128 * p.1.val + p.2.val)) (⟨n, hn⟩, l)
  obtain ⟨q, hq, eq⟩ := hg (128 * n + l.val) (by have := l.isLt; omega)
  refine ⟨t, q, ht, hq, ?_⟩
  unfold blkN yN rsN
  rw [eq, ← e, Fintype.sum_prod_type]

theorem code_eq (b : ℕ) (hb : b < 14336) : codeN x r g a b = codeR x r g a b := by
  unfold codeN codeR
  rw [(block_eq _ (blk_bound hg a (b / 128) (by omega))).2]

theorem scaleN_eq (n : ℕ) (hn : n < 112) : scaleN x r g a n = scaleR x r g a n :=
  (block_eq _ (blk_bound hg a n hn)).1
end

theorem real_of_le {v : EReal} {M : ℝ} (h1 : v ≤ (M : EReal)) (h2 : ((-M : ℝ) : EReal) ≤ v) : ∃ q : ℝ, |q| ≤ M ∧ v = (q : EReal) := by
  induction v with
  | bot => exact absurd h2 (by simp)
  | top => exact absurd h1 (by simp)
  | coe q => exact ⟨q, abs_le.2 ⟨EReal.coe_le_coe_iff.1 h2, EReal.coe_le_coe_iff.1 h1⟩, rfl⟩

theorem of_cmp {u v w : EReal} (h : IntOp.andi (Ideal.cmp .ole u v) (Ideal.cmp .oge u w) = 1#1) : u ≤ v ∧ w ≤ u := by
  unfold Ideal.cmp at h
  by_cases h1 : u ≤ v
  · by_cases h2 : w ≤ u
    · exact ⟨h1, h2⟩
    · simp [h1, h2, IntOp.andi] at h
  · by_cases h2 : w ≤ u <;> simp [h1, h2, IntOp.andi] at h

theorem bounded_of_pre [Cert.Pre_gains_below_2_127.Facts] (A0 A1 : FVec Ideal Cert.Pre_gains_below_2_127.S5x2048x14336 .bf16) (A2 : FVec Ideal Cert.Pre_gains_below_2_127.S14336 .bf16)
    (h : Cert.Pre_gains_below_2_127.fn (F := Ideal) A0 A1 A2 = fun _ => 1#1) : Bounded (gA A2) := by
  intro b hb
  unfold gA
  rw [dif_pos hb]
  have one : Subsingleton Cert.Pre_gains_below_2_127.S_.Idx := ⟨fun _ _ => funext fun a => a.elim0⟩
  have hb' := of_cmp (Host.reduce_andi_all _ _ _ _ _ (congrFun h (fun a => a.elim0)) (ix1 ⟨b, hb⟩))
  refine real_of_le (hb'.1.trans (le_of_eq ?_)) (le_trans (le_of_eq ?_) hb'.2)
  · exact ofBits_gmax
  · exact ofBits_gmin.symm

end Cert.Quant

end
-- ==== Proof.lean ====
/- The claims, proved: the frames of the three programs, and the equality of the kernel's three results with the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_gains_below_2_127
public import proofs.«01_k».proof.Proof.Gen.ReferenceIdeal.Value
public import proofs.«01_k».proof.Proof.FrameKernel
public import proofs.«01_k».proof.Proof.FrameKernelIdeal
public import proofs.«01_k».proof.Proof.ArgsKernelIdeal
public import proofs.«01_k».proof.Proof.ArraysReferenceIdeal
public import proofs.«01_k».proof.Proof.Combine
public import Idealize.ShloMosaic.Adequacy
public import Idealize.ShloMosaic.Init

@[expose] public section

noncomputable section

namespace Cert.Proof

open Idealize.ShloMosaic Idealize.SL.Sem Cert.Kernel

/-- The two programs' arrays agree, the arguments agreeing and the gains being bounded. -/
theorem arrays (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hp : Cert.Pre_KernelIdeal_gains_below_2_127 m) (c : Dev Cert.KernelIdeal.nD)
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.KernelIdeal.Exact.G3 m c = Cert.ReferenceIdeal.Reads.G3 m' c ∧ Cert.KernelIdeal.Exact.G4 m c = Cert.ReferenceIdeal.Reads.G4 m' c
      ∧ Cert.KernelIdeal.Exact.G5 m c = Cert.ReferenceIdeal.Reads.G5 m' c := by
  have hg := Cert.Quant.bounded_of_pre _ _ _ (hp c)
  have eX : Cert.ReferenceIdeal.Reads.X m' c = Cert.KernelIdeal.Exact.X m c := (congrArg Cert.Quant.xA ha.1).trans (Cert.KernelIdeal.Exact.X_eq m c).symm
  have eR : Cert.ReferenceIdeal.Reads.R m' c = Cert.KernelIdeal.Exact.R m c := (congrArg Cert.Quant.xA ha.2.1).trans (Cert.KernelIdeal.Exact.R_eq m c).symm
  have eG : Cert.ReferenceIdeal.Reads.Gn m' c = Cert.KernelIdeal.Exact.Gn m c := (congrArg Cert.Quant.gA ha.2.2).trans (Cert.KernelIdeal.Exact.Gn_eq m c).symm
  have hb : Cert.Quant.Bounded (Cert.KernelIdeal.Exact.Gn m c) := (Cert.KernelIdeal.Exact.Gn_eq m c).symm ▸ hg
  refine ⟨funext fun y => ?_, funext fun y => ?_, funext fun y => ?_⟩
  · unfold Cert.KernelIdeal.Exact.G3 Cert.ReferenceIdeal.Reads.G3
    rw [eX, eR]
  · unfold Cert.KernelIdeal.Exact.G4 Cert.ReferenceIdeal.Reads.G4
    rw [eX, eR, eG]
    exact Cert.Quant.code_eq hb _ _ (y 1).isLt
  · unfold Cert.KernelIdeal.Exact.G5 Cert.ReferenceIdeal.Reads.G5
    rw [eX, eR, eG]
    exact Cert.Quant.scaleN_eq hb _ _ (y 1).isLt

theorem algebraic : Cert.algebraic_KernelIdeal_ReferenceIdeal_pre_gains_below_2_127 := by
  intro m g m' g' hp ha
  refine ⟨fun c => Cert.KernelIdeal.Exact.G3 m c, fun c => Cert.KernelIdeal.Exact.G4 m c, fun c => Cert.KernelIdeal.Exact.G5 m c, ?_, ?_⟩
  · refine (θ_run _ _ _).mono (fun r h c => ?_) (Cert.KernelIdeal.Exact.run_main m g)
    exact ⟨((h.1 c).1 3).trans (Cert.KernelIdeal.Exact.final3 m c), ((h.1 c).1 4).trans (Cert.KernelIdeal.Exact.final4 m c), ((h.1 c).1 5).trans (Cert.KernelIdeal.Exact.final5 m c),
      ((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c)⟩
  · refine (θ_run _ _ _).mono (fun r h c => ?_) (Cert.ReferenceIdeal.Value.run_blocks m' g')
    obtain ⟨a3, a4, a5⟩ := arrays m m' hp c (ha c)
    obtain ⟨h3, h4, h5, hr⟩ := h c
    exact ⟨h3.trans ((Cert.ReferenceIdeal.Reads.final3 m' c).trans a3.symm), h4.trans ((Cert.ReferenceIdeal.Reads.final4 m' c).trans a4.symm),
      h5.trans ((Cert.ReferenceIdeal.Reads.final5 m' c).trans a5.symm), hr⟩

theorem claim : Cert.Claim := ⟨Cert.Kernel.Gen.facts, Cert.KernelIdeal.Gen.facts, Cert.ReferenceIdeal.Gen.facts, Cert.Pre_gains_below_2_127.Gen.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, algebraic⟩

end Cert.Proof

end
